-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondReferenceIdeal (m : (ℓ : Loc Cert.SecondReferenceIdeal.nD Cert.SecondReferenceIdeal.τ Cert.SecondReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4))
      ∧ r.2.sem = fun _ => 0)

def quiescent_SecondReferenceIdeal [hSecondReferenceIdeal : Cert.SecondReferenceIdeal.Facts] : Prop :=
  ∀ (m : (ℓ : Loc Cert.SecondReferenceIdeal.nD Cert.SecondReferenceIdeal.τ Cert.SecondReferenceIdeal.sig) → Buf (Elt Ideal) ℓ) (g : Dev Cert.SecondReferenceIdeal.nD → PrngReg), Pre_SecondReferenceIdeal m →
    θ_run (Cert.SecondReferenceIdeal.defs (F := Ideal)) (onTc (τ := Cert.SecondReferenceIdeal.τ) (Cert.SecondReferenceIdeal.main (F := Ideal))) ⟨m, fun _ => 0, g⟩ (fun r => (∀ c : Dev Cert.SecondReferenceIdeal.nD,
      r.2.mem ((c.tc : Thread Cert.SecondReferenceIdeal.nD Cert.SecondReferenceIdeal.τ).loc Cert.SecondReferenceIdeal.main_arg0) = m ((c.tc : Thread Cert.SecondReferenceIdeal.nD Cert.SecondReferenceIdeal.τ).loc Cert.SecondReferenceIdeal.main_arg0)
      ∧ r.2.mem ((c.tc : Thread Cert.SecondReferenceIdeal.nD Cert.SecondReferenceIdeal.τ).loc Cert.SecondReferenceIdeal.main_arg1) = m ((c.tc : Thread Cert.SecondReferenceIdeal.nD Cert.SecondReferenceIdeal.τ).loc Cert.SecondReferenceIdeal.main_arg1)
      ∧ r.2.mem ((c.tc : Thread Cert.SecondReferenceIdeal.nD Cert.SecondReferenceIdeal.τ).loc Cert.SecondReferenceIdeal.main_arg2) = m ((c.tc : Thread Cert.SecondReferenceIdeal.nD Cert.SecondReferenceIdeal.τ).loc Cert.SecondReferenceIdeal.main_arg2)
      ∧ r.2.mem ((c.tc : Thread Cert.SecondReferenceIdeal.nD Cert.SecondReferenceIdeal.τ).loc Cert.SecondReferenceIdeal.main_arg3) = m ((c.tc : Thread Cert.SecondReferenceIdeal.nD Cert.SecondReferenceIdeal.τ).loc Cert.SecondReferenceIdeal.main_arg3)
      ∧ r.2.mem ((c.tc : Thread Cert.SecondReferenceIdeal.nD Cert.SecondReferenceIdeal.τ).loc Cert.SecondReferenceIdeal.main_arg4) = m ((c.tc : Thread Cert.SecondReferenceIdeal.nD Cert.SecondReferenceIdeal.τ).loc Cert.SecondReferenceIdeal.main_arg4))
      ∧ r.2.sem = fun _ => 0)

def preserves_Kernel_KernelIdeal : Prop :=
  IdealRules.bf16_pair.Statement Cert.KernelIdeal.S16x128 Cert.KernelIdeal.S8x128
  ∧ IdealRules.bf16_pair.SelectZeroStatement Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Second_SecondIdeal : Prop :=
  IdealRules.bf16_pair.Statement Cert.SecondIdeal.S16x128 Cert.SecondIdeal.S8x128
  ∧ IdealRules.bf16_pair.SelectZeroStatement Cert.SecondIdeal.S8x128

def algebraic_SecondIdeal_SecondReferenceIdeal [hSecondIdeal : Cert.SecondIdeal.Facts] [hSecondReferenceIdeal : Cert.SecondReferenceIdeal.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondReferenceIdeal.nD Cert.SecondReferenceIdeal.τ Cert.SecondReferenceIdeal.sig) → Buf (Elt Ideal) ℓ) (g' : Dev Cert.SecondReferenceIdeal.nD → PrngReg), Pre_SecondIdeal m →
    (∀ c : Dev Cert.SecondIdeal.nD,
      m' ((c.tc : Thread Cert.SecondReferenceIdeal.nD Cert.SecondReferenceIdeal.τ).loc Cert.SecondReferenceIdeal.main_arg0) = m ((c.tc : Thread Cert.SecondIdeal.nD Cert.SecondIdeal.τ).loc Cert.SecondIdeal.main_arg0)
      ∧ m' ((c.tc : Thread Cert.SecondReferenceIdeal.nD Cert.SecondReferenceIdeal.τ).loc Cert.SecondReferenceIdeal.main_arg1) = m ((c.tc : Thread Cert.SecondIdeal.nD Cert.SecondIdeal.τ).loc Cert.SecondIdeal.main_arg1)
      ∧ m' ((c.tc : Thread Cert.SecondReferenceIdeal.nD Cert.SecondReferenceIdeal.τ).loc Cert.SecondReferenceIdeal.main_arg2) = m ((c.tc : Thread Cert.SecondIdeal.nD Cert.SecondIdeal.τ).loc Cert.SecondIdeal.main_arg2)
      ∧ m' ((c.tc : Thread Cert.SecondReferenceIdeal.nD Cert.SecondReferenceIdeal.τ).loc Cert.SecondReferenceIdeal.main_arg3) = m ((c.tc : Thread Cert.SecondIdeal.nD Cert.SecondIdeal.τ).loc Cert.SecondIdeal.main_arg3)
      ∧ m' ((c.tc : Thread Cert.SecondReferenceIdeal.nD Cert.SecondReferenceIdeal.τ).loc Cert.SecondReferenceIdeal.main_arg4) = m ((c.tc : Thread Cert.SecondIdeal.nD Cert.SecondIdeal.τ).loc Cert.SecondIdeal.main_arg4)) →
    ∃ (v0 : (c : Dev Cert.SecondIdeal.nD) → Buf (Elt Ideal) ((c.tc : Thread Cert.SecondIdeal.nD Cert.SecondIdeal.τ).loc Cert.SecondIdeal.main_v42)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v42) = v0 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4))
      ∧ θ_run (Cert.SecondReferenceIdeal.defs (F := Ideal)) (onTc (τ := Cert.SecondReferenceIdeal.τ) (Cert.SecondReferenceIdeal.main (F := Ideal))) ⟨m', fun _ => 0, g'⟩ (fun r => ∀ c : Dev Cert.SecondReferenceIdeal.nD,
          r.2.mem ((c.tc : Thread Cert.SecondReferenceIdeal.nD Cert.SecondReferenceIdeal.τ).loc Cert.SecondReferenceIdeal.main_v53) = v0 c
          ∧ r.2.mem ((c.tc : Thread Cert.SecondReferenceIdeal.nD Cert.SecondReferenceIdeal.τ).loc Cert.SecondReferenceIdeal.main_arg0) = m' ((c.tc : Thread Cert.SecondReferenceIdeal.nD Cert.SecondReferenceIdeal.τ).loc Cert.SecondReferenceIdeal.main_arg0)
          ∧ r.2.mem ((c.tc : Thread Cert.SecondReferenceIdeal.nD Cert.SecondReferenceIdeal.τ).loc Cert.SecondReferenceIdeal.main_arg1) = m' ((c.tc : Thread Cert.SecondReferenceIdeal.nD Cert.SecondReferenceIdeal.τ).loc Cert.SecondReferenceIdeal.main_arg1)
          ∧ r.2.mem ((c.tc : Thread Cert.SecondReferenceIdeal.nD Cert.SecondReferenceIdeal.τ).loc Cert.SecondReferenceIdeal.main_arg2) = m' ((c.tc : Thread Cert.SecondReferenceIdeal.nD Cert.SecondReferenceIdeal.τ).loc Cert.SecondReferenceIdeal.main_arg2)
          ∧ r.2.mem ((c.tc : Thread Cert.SecondReferenceIdeal.nD Cert.SecondReferenceIdeal.τ).loc Cert.SecondReferenceIdeal.main_arg3) = m' ((c.tc : Thread Cert.SecondReferenceIdeal.nD Cert.SecondReferenceIdeal.τ).loc Cert.SecondReferenceIdeal.main_arg3)
          ∧ r.2.mem ((c.tc : Thread Cert.SecondReferenceIdeal.nD Cert.SecondReferenceIdeal.τ).loc Cert.SecondReferenceIdeal.main_arg4) = m' ((c.tc : Thread Cert.SecondReferenceIdeal.nD Cert.SecondReferenceIdeal.τ).loc Cert.SecondReferenceIdeal.main_arg4))

def Claim : Prop :=
  ∃ (hKernel : Cert.Kernel.Facts) (hKernelIdeal : Cert.KernelIdeal.Facts) (hReferenceIdeal : Cert.ReferenceIdeal.Facts) (hSecond : Cert.Second.Facts) (hSecondIdeal : Cert.SecondIdeal.Facts) (hSecondReferenceIdeal : Cert.SecondReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Second (hSecond := hSecond)
    ∧ quiescent_SecondIdeal (hSecondIdeal := hSecondIdeal)
    ∧ quiescent_SecondReferenceIdeal (hSecondReferenceIdeal := hSecondReferenceIdeal)
    ∧ preserves_Kernel_KernelIdeal
    ∧ algebraic_KernelIdeal_ReferenceIdeal (hKernelIdeal := hKernelIdeal) (hReferenceIdeal := hReferenceIdeal)
    ∧ preserves_Second_SecondIdeal
    ∧ algebraic_SecondIdeal_SecondReferenceIdeal (hSecondIdeal := hSecondIdeal) (hSecondReferenceIdeal := hSecondReferenceIdeal)
-- ==== Kernel.lean ====
abbrev S40960x23x80 : Shape := ⟨3, ![40960, 23, 80]⟩
abbrev S40960 : Shape := ⟨1, ![40960]⟩
abbrev S80x4x2x40 : Shape := ⟨4, ![80, 4, 2, 40]⟩
abbrev S4x2x40 : Shape := ⟨3, ![4, 2, 40]⟩
abbrev S80x320 : Shape := ⟨2, ![80, 320]⟩
abbrev S320x80 : Shape := ⟨2, ![320, 80]⟩
abbrev S_ : Shape := ⟨0, ![]⟩
abbrev S320x96 : Shape := ⟨2, ![320, 96]⟩
abbrev S320x1 : Shape := ⟨2, ![320, 1]⟩
abbrev S320x128 : Shape := ⟨2, ![320, 128]⟩
abbrev S64x5x128x23x80 : Shape := ⟨5, ![64, 5, 128, 23, 80]⟩
abbrev S64x128x80x5x23 : Shape := ⟨5, ![64, 128, 80, 5, 23]⟩
abbrev S64x128x96x5x24 : Shape := ⟨5, ![64, 128, 96, 5, 24]⟩
abbrev S64x128x96x120 : Shape := ⟨4, ![64, 128, 96, 120]⟩
abbrev S64x128x96x128 : Shape := ⟨4, ![64, 128, 96, 128]⟩
abbrev S786432x128 : Shape := ⟨2, ![786432, 128]⟩
abbrev S64x5x128 : Shape := ⟨3, ![64, 5, 128]⟩
abbrev S64x128x5 : Shape := ⟨3, ![64, 128, 5]⟩
abbrev S64x128x5x1 : Shape := ⟨4, ![64, 128, 5, 1]⟩
abbrev S64x128x5x24 : Shape := ⟨4, ![64, 128, 5, 24]⟩
abbrev S64x128x120 : Shape := ⟨3, ![64, 128, 120]⟩
abbrev S64x128x128 : Shape := ⟨3, ![64, 128, 128]⟩
abbrev S8192x128 : Shape := ⟨2, ![8192, 128]⟩
abbrev S655360x128 : Shape := ⟨2, ![655360, 128]⟩
abbrev S12288x128 : Shape := ⟨2, ![12288, 128]⟩
abbrev S128x128 : Shape := ⟨2, ![128, 128]⟩
abbrev S10240x128 : Shape := ⟨2, ![10240, 128]⟩
abbrev S8x128 : Shape := ⟨2, ![8, 128]⟩
abbrev S96x128 : Shape := ⟨2, ![96, 128]⟩
abbrev S96x256 : Shape := ⟨2, ![96, 256]⟩
abbrev S320x256 : Shape := ⟨2, ![320, 256]⟩
abbrev S1x128 : Shape := ⟨2, ![1, 128]⟩
abbrev S80x128 : Shape := ⟨2, ![80, 128]⟩
abbrev S128x80 : Shape := ⟨2, ![128, 80]⟩
abbrev S40x128 : Shape := ⟨2, ![40, 128]⟩
abbrev S80x256 : Shape := ⟨2, ![80, 256]⟩
abbrev S120x80 : Shape := ⟨2, ![120, 80]⟩
abbrev S120x256 : Shape := ⟨2, ![120, 256]⟩
abbrev S120x128 : Shape := ⟨2, ![120, 128]⟩
abbrev S128 : Shape := ⟨1, ![128]⟩
abbrev S16x128 : Shape := ⟨2, ![16, 128]⟩
abbrev S128x256 : Shape := ⟨2, ![128, 256]⟩
abbrev S64x128x80x128 : Shape := ⟨4, ![64, 128, 80, 128]⟩
abbrev S64x128x80x120 : Shape := ⟨4, ![64, 128, 80, 120]⟩
abbrev S64x128x80x5x24 : Shape := ⟨5, ![64, 128, 80, 5, 24]⟩

abbrev nBuf : Space → Nat
  | .hbm => 43
  | .vmem => 10
  | .smem => 0
  | _ => 0

abbrev bufTy : (tb : Table) → Fin (tcTables nBuf tb) → BufTy
  | .hbm, ⟨0, _⟩ => ⟨S40960x23x80, .bf16⟩
  | .hbm, ⟨1, _⟩ => ⟨S40960, .i32⟩
  | .hbm, ⟨2, _⟩ => ⟨S80x4x2x40, .bf16⟩
  | .hbm, ⟨3, _⟩ => ⟨S4x2x40, .f32⟩
  | .hbm, ⟨4, _⟩ => ⟨S80x320, .bf16⟩
  | .hbm, ⟨5, _⟩ => ⟨S320x80, .bf16⟩
  | .hbm, ⟨6, _⟩ => ⟨S_, .i32⟩
  | .hbm, ⟨7, _⟩ => ⟨S_, .bf16⟩
  | .hbm, ⟨8, _⟩ => ⟨S320x96, .bf16⟩
  | .hbm, ⟨9, _⟩ => ⟨S320x1, .f32⟩
  | .hbm, ⟨10, _⟩ => ⟨S320x128, .f32⟩
  | .hbm, ⟨11, _⟩ => ⟨S40960, .f32⟩
  | .hbm, ⟨12, _⟩ => ⟨S_, .f32⟩
  | .hbm, ⟨13, _⟩ => ⟨S40960, .f32⟩
  | .hbm, ⟨14, _⟩ => ⟨S40960, .f32⟩
  | .hbm, ⟨15, _⟩ => ⟨S40960, .f32⟩
  | .hbm, ⟨16, _⟩ => ⟨S40960x23x80, .f32⟩
  | .hbm, ⟨17, _⟩ => ⟨S64x5x128x23x80, .f32⟩
  | .hbm, ⟨18, _⟩ => ⟨S64x128x80x5x23, .f32⟩
  | .hbm, ⟨19, _⟩ => ⟨S_, .i32⟩
  | .hbm, ⟨20, _⟩ => ⟨S_, .f32⟩
  | .hbm, ⟨21, _⟩ => ⟨S64x128x96x5x24, .f32⟩
  | .hbm, ⟨22, _⟩ => ⟨S64x128x96x120, .f32⟩
  | .hbm, ⟨23, _⟩ => ⟨S_, .i32⟩
  | .hbm, ⟨24, _⟩ => ⟨S_, .f32⟩
  | .hbm, ⟨25, _⟩ => ⟨S64x128x96x128, .f32⟩
  | .hbm, ⟨26, _⟩ => ⟨S786432x128, .f32⟩
  | .hbm, ⟨27, _⟩ => ⟨S64x5x128, .f32⟩
  | .hbm, ⟨28, _⟩ => ⟨S64x128x5, .f32⟩
  | .hbm, ⟨29, _⟩ => ⟨S64x128x5x1, .f32⟩
  | .hbm, ⟨30, _⟩ => ⟨S64x128x5x24, .f32⟩
  | .hbm, ⟨31, _⟩ => ⟨S64x128x120, .f32⟩
  | .hbm, ⟨32, _⟩ => ⟨S_, .i32⟩
  | .hbm, ⟨33, _⟩ => ⟨S_, .f32⟩
  | .hbm, ⟨34, _⟩ => ⟨S64x128x128, .f32⟩
  | .hbm, ⟨35, _⟩ => ⟨S8192x128, .f32⟩
  | .hbm, ⟨36, _⟩ => ⟨S655360x128, .bf16⟩
  | .hbm, ⟨37, _⟩ => ⟨S64x128x80x128, .bf16⟩
  | .hbm, ⟨38, _⟩ => ⟨S64x128x80x120, .bf16⟩
  | .hbm, ⟨39, _⟩ => ⟨S64x128x80x5x24, .bf16⟩
  | .hbm, ⟨40, _⟩ => ⟨S64x128x80x5x23, .bf16⟩
  | .hbm, ⟨41, _⟩ => ⟨S64x5x128x23x80, .bf16⟩
  | .hbm, ⟨42, _⟩ => ⟨S40960x23x80, .bf16⟩
  | .local _ .vmem, ⟨0, _⟩ => ⟨S12288x128, .f32⟩
  | .local _ .vmem, ⟨1, _⟩ => ⟨S12288x128, .f32⟩
  | .local _ .vmem, ⟨2, _⟩ => ⟨S128x128, .f32⟩
  | .local _ .vmem, ⟨3, _⟩ => ⟨S128x128, .f32⟩
  | .local _ .vmem, ⟨4, _⟩ => ⟨S320x96, .bf16⟩
  | .local _ .vmem, ⟨5, _⟩ => ⟨S320x128, .f32⟩
  | .local _ .vmem, ⟨6, _⟩ => ⟨S10240x128, .bf16⟩
  | .local _ .vmem, ⟨7, _⟩ => ⟨S10240x128, .bf16⟩
  | .local _ .vmem, ⟨8, _⟩ => ⟨S320x128, .f32⟩
  | .local _ .vmem, ⟨9, _⟩ => ⟨S8x128, .f32⟩
  | _, _ => ⟨S40960x23x80, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_call2_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_call3_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![64], ![false]⟩

@[reducible] def k0_t1_loop : Scf.Loop 32 :=
  let c0_i32_43 : BitVec 32 := 0#32
  let c32_i32 : BitVec 32 := 32#32
  let v127 : BitVec 32 := Scalar.addi c0_i32_43 c32_i32
  let c1_i32_44 : BitVec 32 := 1#32
  ⟨c0_i32_43, v127, c1_i32_44⟩
def k0_mult1 (k0_t1 : Fin k0_t1_loop.trips) : BitVec 32 :=
  let c0_i32_43 : BitVec 32 := 0#32
  let c1_i32_44 : BitVec 32 := 1#32
  let arg8 : BitVec 32 := Scf.iv c0_i32_43 c1_i32_44 k0_t1
  let c4_i32_46 : BitVec 32 := 4#32
  let v128 : BitVec 32 := Scalar.muli arg8 c4_i32_46
  let c0_i32_47 : BitVec 32 := 0#32
  let v129 : BitVec 32 := Scalar.addi v128 c0_i32_47
  let c0_i32_48 : BitVec 32 := 0#32
  let v130 : BitVec 32 := Scalar.addi v129 c0_i32_48
  let c96_i32_49 : BitVec 32 := 96#32
  let v131 : BitVec 32 := Scalar.muli v130 c96_i32_49
  v131
def k0_off1 (k0_t1 : Fin k0_t1_loop.trips) (c0_i32_47 : BitVec 32) (c0_i32_48 : BitVec 32) : Fin 2 → Nat :=
  let c0_i32_43 : BitVec 32 := 0#32
  let c1_i32_44 : BitVec 32 := 1#32
  let arg8 : BitVec 32 := Scf.iv c0_i32_43 c1_i32_44 k0_t1
  let c4_i32_46 : BitVec 32 := 4#32
  let v128 : BitVec 32 := Scalar.muli arg8 c4_i32_46
  let v129 : BitVec 32 := Scalar.addi v128 c0_i32_47
  let v130 : BitVec 32 := Scalar.addi v129 c0_i32_48
  let c96_i32_49 : BitVec 32 := 96#32
  let v131 : BitVec 32 := Scalar.muli v130 c96_i32_49
  let v132 : BitVec 32 := v131
  let v133 : Index := Scalar.indexCast v132
  let c0 : Index := 0#32
  ![v133.toNat, 0]
def k0_mult2 (k0_t1 : Fin k0_t1_loop.trips) : BitVec 32 :=
  let c0_i32_43 : BitVec 32 := 0#32
  let c1_i32_44 : BitVec 32 := 1#32
  let arg8 : BitVec 32 := Scf.iv c0_i32_43 c1_i32_44 k0_t1
  let c4_i32_46 : BitVec 32 := 4#32
  let v128 : BitVec 32 := Scalar.muli arg8 c4_i32_46
  let c0_i32_50 : BitVec 32 := 0#32
  let v137 : BitVec 32 := Scalar.addi v128 c0_i32_50
  let c1_i32_51 : BitVec 32 := 1#32
  let v138 : BitVec 32 := Scalar.addi v137 c1_i32_51
  let c96_i32_52 : BitVec 32 := 96#32
  let v139 : BitVec 32 := Scalar.muli v138 c96_i32_52
  v139
def k0_off2 (k0_t1 : Fin k0_t1_loop.trips) (c0_i32_56 : BitVec 32) : Fin 2 → Nat :=
  let c0_i32_43 : BitVec 32 := 0#32
  let c1_i32_44 : BitVec 32 := 1#32
  let arg8 : BitVec 32 := Scf.iv c0_i32_43 c1_i32_44 k0_t1
  let c4_i32_46 : BitVec 32 := 4#32
  let v128 : BitVec 32 := Scalar.muli arg8 c4_i32_46
  let v150 : BitVec 32 := Scalar.addi v128 c0_i32_56
  let v151 : Index := Scalar.indexCast v150
  let c0_57 : Index := 0#32
  ![v151.toNat, 0]
def k0_mult3 (k0_t1 : Fin k0_t1_loop.trips) : BitVec 32 :=
  let c0_i32_43 : BitVec 32 := 0#32
  let c1_i32_44 : BitVec 32 := 1#32
  let arg8 : BitVec 32 := Scf.iv c0_i32_43 c1_i32_44 k0_t1
  let c4_i32_46 : BitVec 32 := 4#32
  let v128 : BitVec 32 := Scalar.muli arg8 c4_i32_46
  let c2_i32_126 : BitVec 32 := 2#32
  let v608 : BitVec 32 := Scalar.addi v128 c2_i32_126
  let c0_i32_127 : BitVec 32 := 0#32
  let v609 : BitVec 32 := Scalar.addi v608 c0_i32_127
  let c96_i32_128 : BitVec 32 := 96#32
  let v610 : BitVec 32 := Scalar.muli v609 c96_i32_128
  v610
def k0_mult4 (k0_t1 : Fin k0_t1_loop.trips) : BitVec 32 :=
  let c0_i32_43 : BitVec 32 := 0#32
  let c1_i32_44 : BitVec 32 := 1#32
  let arg8 : BitVec 32 := Scf.iv c0_i32_43 c1_i32_44 k0_t1
  let c4_i32_46 : BitVec 32 := 4#32
  let v128 : BitVec 32 := Scalar.muli arg8 c4_i32_46
  let c2_i32_130 : BitVec 32 := 2#32
  let v616 : BitVec 32 := Scalar.addi v128 c2_i32_130
  let c1_i32_131 : BitVec 32 := 1#32
  let v617 : BitVec 32 := Scalar.addi v616 c1_i32_131
  let c96_i32_132 : BitVec 32 := 96#32
  let v618 : BitVec 32 := Scalar.muli v617 c96_i32_132
  v618
def k0_mult5 (k0_t1 : Fin k0_t1_loop.trips) : BitVec 32 :=
  let c0_i32_43 : BitVec 32 := 0#32
  let c1_i32_44 : BitVec 32 := 1#32
  let arg8 : BitVec 32 := Scf.iv c0_i32_43 c1_i32_44 k0_t1
  let c4_i32_46 : BitVec 32 := 4#32
  let v128 : BitVec 32 := Scalar.muli arg8 c4_i32_46
  let c0_i32_209 : BitVec 32 := 0#32
  let v1095 : BitVec 32 := Scalar.addi v128 c0_i32_209
  let c80_i32 : BitVec 32 := 80#32
  let v1096 : BitVec 32 := Scalar.muli v1095 c80_i32
  v1096
def k0_off3 (k0_t1 : Fin k0_t1_loop.trips) (c0_i32_209 : BitVec 32) : Fin 2 → Nat :=
  let c0_i32_43 : BitVec 32 := 0#32
  let c1_i32_44 : BitVec 32 := 1#32
  let arg8 : BitVec 32 := Scf.iv c0_i32_43 c1_i32_44 k0_t1
  let c4_i32_46 : BitVec 32 := 4#32
  let v128 : BitVec 32 := Scalar.muli arg8 c4_i32_46
  let v1095 : BitVec 32 := Scalar.addi v128 c0_i32_209
  let c80_i32 : BitVec 32 := 80#32
  let v1096 : BitVec 32 := Scalar.muli v1095 c80_i32
  let v1097 : BitVec 32 := v1096
  let v1098 : Index := Scalar.indexCast v1097
  let c0_210 : Index := 0#32
  ![v1098.toNat, 0]
def k0_mult6 (k0_t1 : Fin k0_t1_loop.trips) : BitVec 32 :=
  let c0_i32_43 : BitVec 32 := 0#32
  let c1_i32_44 : BitVec 32 := 1#32
  let arg8 : BitVec 32 := Scf.iv c0_i32_43 c1_i32_44 k0_t1
  let c4_i32_46 : BitVec 32 := 4#32
  let v128 : BitVec 32 := Scalar.muli arg8 c4_i32_46
  let c1_i32_215 : BitVec 32 := 1#32
  let v1108 : BitVec 32 := Scalar.addi v128 c1_i32_215
  let c80_i32_216 : BitVec 32 := 80#32
  let v1109 : BitVec 32 := Scalar.muli v1108 c80_i32_216
  v1109
def k0_mult7 (k0_t1 : Fin k0_t1_loop.trips) : BitVec 32 :=
  let c0_i32_43 : BitVec 32 := 0#32
  let c1_i32_44 : BitVec 32 := 1#32
  let arg8 : BitVec 32 := Scf.iv c0_i32_43 c1_i32_44 k0_t1
  let c4_i32_46 : BitVec 32 := 4#32
  let v128 : BitVec 32 := Scalar.muli arg8 c4_i32_46
  let c2_i32_222 : BitVec 32 := 2#32
  let v1121 : BitVec 32 := Scalar.addi v128 c2_i32_222
  let c80_i32_223 : BitVec 32 := 80#32
  let v1122 : BitVec 32 := Scalar.muli v1121 c80_i32_223
  v1122
def k0_mult8 (k0_t1 : Fin k0_t1_loop.trips) : BitVec 32 :=
  let c0_i32_43 : BitVec 32 := 0#32
  let c1_i32_44 : BitVec 32 := 1#32
  let arg8 : BitVec 32 := Scf.iv c0_i32_43 c1_i32_44 k0_t1
  let c4_i32_46 : BitVec 32 := 4#32
  let v128 : BitVec 32 := Scalar.muli arg8 c4_i32_46
  let c3_i32_229 : BitVec 32 := 3#32
  let v1134 : BitVec 32 := Scalar.addi v128 c3_i32_229
  let c80_i32_230 : BitVec 32 := 80#32
  let v1135 : BitVec 32 := Scalar.muli v1134 c80_i32_230
  v1135
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12288x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S320x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S320x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10240x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S40960x23x80 : Shape := ⟨3, ![40960, 23, 80]⟩
abbrev S40960 : Shape := ⟨1, ![40960]⟩
abbrev S80x4x2x40 : Shape := ⟨4, ![80, 4, 2, 40]⟩
abbrev S4x2x40 : Shape := ⟨3, ![4, 2, 40]⟩
abbrev S_ : Shape := ⟨0, ![]⟩
abbrev S40960x23x4x2x40 : Shape := ⟨5, ![40960, 23, 4, 2, 40]⟩
abbrev S40960x1x1x1x1 : Shape := ⟨5, ![40960, 1, 1, 1, 1]⟩
abbrev S1x1x4x2x40 : Shape := ⟨5, ![1, 1, 4, 2, 40]⟩
abbrev S40960x23x1x2x40 : Shape := ⟨5, ![40960, 23, 1, 2, 40]⟩
abbrev S40960x23x2x40 : Shape := ⟨4, ![40960, 23, 2, 40]⟩
abbrev S40960x2x23x23 : Shape := ⟨4, ![40960, 2, 23, 23]⟩
abbrev S40960x2x23 : Shape := ⟨3, ![40960, 2, 23]⟩
abbrev S40960x2x23x1 : Shape := ⟨4, ![40960, 2, 23, 1]⟩
abbrev S40960x2x40x23 : Shape := ⟨4, ![40960, 2, 40, 23]⟩

abbrev nBuf : Space → Nat
  | .hbm => 56
  | .vmem => 0
  | .smem => 0
  | _ => 0

abbrev bufTy : (tb : Table) → Fin (tcTables nBuf tb) → BufTy
  | .hbm, ⟨0, _⟩ => ⟨S40960x23x80, .bf16⟩
  | .hbm, ⟨1, _⟩ => ⟨S40960, .i32⟩
  | .hbm, ⟨2, _⟩ => ⟨S80x4x2x40, .bf16⟩
  | .hbm, ⟨3, _⟩ => ⟨S4x2x40, .f32⟩
  | .hbm, ⟨4, _⟩ => ⟨S40960, .f32⟩
  | .hbm, ⟨5, _⟩ => ⟨S_, .f32⟩
  | .hbm, ⟨6, _⟩ => ⟨S40960, .f32⟩
  | .hbm, ⟨7, _⟩ => ⟨S40960, .f32⟩
  | .hbm, ⟨8, _⟩ => ⟨S40960, .f32⟩
  | .hbm, ⟨9, _⟩ => ⟨S40960x23x80, .f32⟩
  | .hbm, ⟨10, _⟩ => ⟨S80x4x2x40, .f32⟩
  | .hbm, ⟨11, _⟩ => ⟨S40960x23x4x2x40, .f32⟩
  | .hbm, ⟨12, _⟩ => ⟨S40960x1x1x1x1, .f32⟩
  | .hbm, ⟨13, _⟩ => ⟨S40960x23x4x2x40, .f32⟩
  | .hbm, ⟨14, _⟩ => ⟨S40960x23x4x2x40, .f32⟩
  | .hbm, ⟨15, _⟩ => ⟨S1x1x4x2x40, .f32⟩
  | .hbm, ⟨16, _⟩ => ⟨S40960x23x4x2x40, .f32⟩
  | .hbm, ⟨17, _⟩ => ⟨S40960x23x4x2x40, .f32⟩
  | .hbm, ⟨18, _⟩ => ⟨S40960x23x1x2x40, .f32⟩
  | .hbm, ⟨19, _⟩ => ⟨S40960x23x2x40, .f32⟩
  | .hbm, ⟨20, _⟩ => ⟨S40960x23x1x2x40, .f32⟩
  | .hbm, ⟨21, _⟩ => ⟨S40960x23x2x40, .f32⟩
  | .hbm, ⟨22, _⟩ => ⟨S40960x23x1x2x40, .f32⟩
  | .hbm, ⟨23, _⟩ => ⟨S40960x23x2x40, .f32⟩
  | .hbm, ⟨24, _⟩ => ⟨S40960x23x1x2x40, .f32⟩
  | .hbm, ⟨25, _⟩ => ⟨S40960x23x2x40, .f32⟩
  | .hbm, ⟨26, _⟩ => ⟨S40960x23x2x40, .bf16⟩
  | .hbm, ⟨27, _⟩ => ⟨S40960x23x2x40, .bf16⟩
  | .hbm, ⟨28, _⟩ => ⟨S40960x2x23x23, .f32⟩
  | .hbm, ⟨29, _⟩ => ⟨S_, .f32⟩
  | .hbm, ⟨30, _⟩ => ⟨S40960x2x23x23, .f32⟩
  | .hbm, ⟨31, _⟩ => ⟨S40960x2x23x23, .f32⟩
  | .hbm, ⟨32, _⟩ => ⟨S_, .f32⟩
  | .hbm, ⟨33, _⟩ => ⟨S40960x2x23, .f32⟩
  | .hbm, ⟨34, _⟩ => ⟨S_, .f32⟩
  | .hbm, ⟨35, _⟩ => ⟨S40960x2x23, .f32⟩
  | .hbm, ⟨36, _⟩ => ⟨S40960x2x23, .f32⟩
  | .hbm, ⟨37, _⟩ => ⟨S40960x2x23x1, .f32⟩
  | .hbm, ⟨38, _⟩ => ⟨S40960x2x23x23, .f32⟩
  | .hbm, ⟨39, _⟩ => ⟨S40960x2x23x23, .f32⟩
  | .hbm, ⟨40, _⟩ => ⟨S40960x2x23x23, .f32⟩
  | .hbm, ⟨41, _⟩ => ⟨S_, .f32⟩
  | .hbm, ⟨42, _⟩ => ⟨S40960x2x23, .f32⟩
  | .hbm, ⟨43, _⟩ => ⟨S40960x2x23x1, .f32⟩
  | .hbm, ⟨44, _⟩ => ⟨S40960x2x23x23, .f32⟩
  | .hbm, ⟨45, _⟩ => ⟨S40960x2x23x23, .f32⟩
  | .hbm, ⟨46, _⟩ => ⟨S40960x2x23x23, .bf16⟩
  | .hbm, ⟨47, _⟩ => ⟨S40960x23x2x40, .bf16⟩
  | .hbm, ⟨48, _⟩ => ⟨S40960x2x40x23, .f32⟩
  | .hbm, ⟨49, _⟩ => ⟨S40960x23x2x40, .f32⟩
  | .hbm, ⟨50, _⟩ => ⟨S40960x23x2x40, .f32⟩
  | .hbm, ⟨51, _⟩ => ⟨S_, .f32⟩
  | .hbm, ⟨52, _⟩ => ⟨S40960x23x2x40, .f32⟩
  | .hbm, ⟨53, _⟩ => ⟨S40960x23x2x40, .f32⟩
  | .hbm, ⟨54, _⟩ => ⟨S40960x23x80, .f32⟩
  | .hbm, ⟨55, _⟩ => ⟨S40960x23x80, .bf16⟩
  | _, _ => ⟨S40960x23x80, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_call0_cst : Ref sig .tc := ⟨.hbm, 51, rfl⟩
abbrev main_call0_v0 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Second.lean ====
abbrev S40960x23x80 : Shape := ⟨3, ![40960, 23, 80]⟩
abbrev S40960 : Shape := ⟨1, ![40960]⟩
abbrev S80x4x2x40 : Shape := ⟨4, ![80, 4, 2, 40]⟩
abbrev S4x2x40 : Shape := ⟨3, ![4, 2, 40]⟩
abbrev S80x320 : Shape := ⟨2, ![80, 320]⟩
abbrev S320x80 : Shape := ⟨2, ![320, 80]⟩
abbrev S_ : Shape := ⟨0, ![]⟩
abbrev S320x96 : Shape := ⟨2, ![320, 96]⟩
abbrev S320x1 : Shape := ⟨2, ![320, 1]⟩
abbrev S320x128 : Shape := ⟨2, ![320, 128]⟩
abbrev S64x5x128x23x80 : Shape := ⟨5, ![64, 5, 128, 23, 80]⟩
abbrev S64x128x80x5x23 : Shape := ⟨5, ![64, 128, 80, 5, 23]⟩
abbrev S64x128x96x5x24 : Shape := ⟨5, ![64, 128, 96, 5, 24]⟩
abbrev S64x128x96x120 : Shape := ⟨4, ![64, 128, 96, 120]⟩
abbrev S64x128x96x128 : Shape := ⟨4, ![64, 128, 96, 128]⟩
abbrev S786432x128 : Shape := ⟨2, ![786432, 128]⟩
abbrev S64x5x128 : Shape := ⟨3, ![64, 5, 128]⟩
abbrev S64x128x5 : Shape := ⟨3, ![64, 128, 5]⟩
abbrev S64x128x5x1 : Shape := ⟨4, ![64, 128, 5, 1]⟩
abbrev S64x128x5x24 : Shape := ⟨4, ![64, 128, 5, 24]⟩
abbrev S64x128x120 : Shape := ⟨3, ![64, 128, 120]⟩
abbrev S64x128x128 : Shape := ⟨3, ![64, 128, 128]⟩
abbrev S8192x128 : Shape := ⟨2, ![8192, 128]⟩
abbrev S655360x128 : Shape := ⟨2, ![655360, 128]⟩
abbrev S12288x128 : Shape := ⟨2, ![12288, 128]⟩
abbrev S128x128 : Shape := ⟨2, ![128, 128]⟩
abbrev S10240x128 : Shape := ⟨2, ![10240, 128]⟩
abbrev S8x128 : Shape := ⟨2, ![8, 128]⟩
abbrev S96x128 : Shape := ⟨2, ![96, 128]⟩
abbrev S96x256 : Shape := ⟨2, ![96, 256]⟩
abbrev S320x256 : Shape := ⟨2, ![320, 256]⟩
abbrev S1x128 : Shape := ⟨2, ![1, 128]⟩
abbrev S80x128 : Shape := ⟨2, ![80, 128]⟩
abbrev S128x80 : Shape := ⟨2, ![128, 80]⟩
abbrev S40x128 : Shape := ⟨2, ![40, 128]⟩
abbrev S80x256 : Shape := ⟨2, ![80, 256]⟩
abbrev S120x80 : Shape := ⟨2, ![120, 80]⟩
abbrev S120x256 : Shape := ⟨2, ![120, 256]⟩
abbrev S120x128 : Shape := ⟨2, ![120, 128]⟩
abbrev S128 : Shape := ⟨1, ![128]⟩
abbrev S16x128 : Shape := ⟨2, ![16, 128]⟩
abbrev S128x256 : Shape := ⟨2, ![128, 256]⟩
abbrev S64x128x80x128 : Shape := ⟨4, ![64, 128, 80, 128]⟩
abbrev S64x128x80x120 : Shape := ⟨4, ![64, 128, 80, 120]⟩
abbrev S64x128x80x5x24 : Shape := ⟨5, ![64, 128, 80, 5, 24]⟩

abbrev nBuf : Space → Nat
  | .hbm => 60
  | .vmem => 12
  | .smem => 0
  | _ => 0

abbrev bufTy : (tb : Table) → Fin (tcTables nBuf tb) → BufTy
  | .hbm, ⟨0, _⟩ => ⟨S40960x23x80, .bf16⟩
  | .hbm, ⟨1, _⟩ => ⟨S40960, .i32⟩
  | .hbm, ⟨2, _⟩ => ⟨S40960, .i32⟩
  | .hbm, ⟨3, _⟩ => ⟨S80x4x2x40, .bf16⟩
  | .hbm, ⟨4, _⟩ => ⟨S4x2x40, .f32⟩
  | .hbm, ⟨5, _⟩ => ⟨S80x320, .bf16⟩
  | .hbm, ⟨6, _⟩ => ⟨S320x80, .bf16⟩
  | .hbm, ⟨7, _⟩ => ⟨S_, .i32⟩
  | .hbm, ⟨8, _⟩ => ⟨S_, .bf16⟩
  | .hbm, ⟨9, _⟩ => ⟨S320x96, .bf16⟩
  | .hbm, ⟨10, _⟩ => ⟨S320x1, .f32⟩
  | .hbm, ⟨11, _⟩ => ⟨S320x128, .f32⟩
  | .hbm, ⟨12, _⟩ => ⟨S40960, .f32⟩
  | .hbm, ⟨13, _⟩ => ⟨S_, .f32⟩
  | .hbm, ⟨14, _⟩ => ⟨S40960, .f32⟩
  | .hbm, ⟨15, _⟩ => ⟨S40960, .f32⟩
  | .hbm, ⟨16, _⟩ => ⟨S40960, .f32⟩
  | .hbm, ⟨17, _⟩ => ⟨S40960x23x80, .f32⟩
  | .hbm, ⟨18, _⟩ => ⟨S64x5x128x23x80, .f32⟩
  | .hbm, ⟨19, _⟩ => ⟨S64x128x80x5x23, .f32⟩
  | .hbm, ⟨20, _⟩ => ⟨S_, .i32⟩
  | .hbm, ⟨21, _⟩ => ⟨S_, .f32⟩
  | .hbm, ⟨22, _⟩ => ⟨S64x128x96x5x24, .f32⟩
  | .hbm, ⟨23, _⟩ => ⟨S64x128x96x120, .f32⟩
  | .hbm, ⟨24, _⟩ => ⟨S_, .i32⟩
  | .hbm, ⟨25, _⟩ => ⟨S_, .f32⟩
  | .hbm, ⟨26, _⟩ => ⟨S64x128x96x128, .f32⟩
  | .hbm, ⟨27, _⟩ => ⟨S786432x128, .f32⟩
  | .hbm, ⟨28, _⟩ => ⟨S64x5x128, .f32⟩
  | .hbm, ⟨29, _⟩ => ⟨S64x128x5, .f32⟩
  | .hbm, ⟨30, _⟩ => ⟨S64x128x5x1, .f32⟩
  | .hbm, ⟨31, _⟩ => ⟨S64x128x5x24, .f32⟩
  | .hbm, ⟨32, _⟩ => ⟨S64x128x120, .f32⟩
  | .hbm, ⟨33, _⟩ => ⟨S_, .i32⟩
  | .hbm, ⟨34, _⟩ => ⟨S_, .f32⟩
  | .hbm, ⟨35, _⟩ => ⟨S64x128x128, .f32⟩
  | .hbm, ⟨36, _⟩ => ⟨S8192x128, .f32⟩
  | .hbm, ⟨37, _⟩ => ⟨S40960, .f32⟩
  | .hbm, ⟨38, _⟩ => ⟨S40960, .f32⟩
  | .hbm, ⟨39, _⟩ => ⟨S40960, .f32⟩
  | .hbm, ⟨40, _⟩ => ⟨S_, .f32⟩
  | .hbm, ⟨41, _⟩ => ⟨S40960, .f32⟩
  | .hbm, ⟨42, _⟩ => ⟨S40960, .f32⟩
  | .hbm, ⟨43, _⟩ => ⟨S40960, .f32⟩
  | .hbm, ⟨44, _⟩ => ⟨S64x5x128, .f32⟩
  | .hbm, ⟨45, _⟩ => ⟨S64x128x5, .f32⟩
  | .hbm, ⟨46, _⟩ => ⟨S64x128x5x1, .f32⟩
  | .hbm, ⟨47, _⟩ => ⟨S64x128x5x24, .f32⟩
  | .hbm, ⟨48, _⟩ => ⟨S64x128x120, .f32⟩
  | .hbm, ⟨49, _⟩ => ⟨S_, .i32⟩
  | .hbm, ⟨50, _⟩ => ⟨S_, .f32⟩
  | .hbm, ⟨51, _⟩ => ⟨S64x128x128, .f32⟩
  | .hbm, ⟨52, _⟩ => ⟨S8192x128, .f32⟩
  | .hbm, ⟨53, _⟩ => ⟨S655360x128, .fp8e4m3⟩
  | .hbm, ⟨54, _⟩ => ⟨S64x128x80x128, .fp8e4m3⟩
  | .hbm, ⟨55, _⟩ => ⟨S64x128x80x120, .fp8e4m3⟩
  | .hbm, ⟨56, _⟩ => ⟨S64x128x80x5x24, .fp8e4m3⟩
  | .hbm, ⟨57, _⟩ => ⟨S64x128x80x5x23, .fp8e4m3⟩
  | .hbm, ⟨58, _⟩ => ⟨S64x5x128x23x80, .fp8e4m3⟩
  | .hbm, ⟨59, _⟩ => ⟨S40960x23x80, .fp8e4m3⟩
  | .local _ .vmem, ⟨0, _⟩ => ⟨S12288x128, .f32⟩
  | .local _ .vmem, ⟨1, _⟩ => ⟨S12288x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S320x96, .bf16⟩
  | .local _ .vmem, ⟨7, _⟩ => ⟨S320x128, .f32⟩
  | .local _ .vmem, ⟨8, _⟩ => ⟨S10240x128, .fp8e4m3⟩
  | .local _ .vmem, ⟨9, _⟩ => ⟨S10240x128, .fp8e4m3⟩
  | .local _ .vmem, ⟨10, _⟩ => ⟨S320x128, .f32⟩
  | .local _ .vmem, ⟨11, _⟩ => ⟨S8x128, .f32⟩
  | _, _ => ⟨S40960x23x80, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_call2_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_call3_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_call4_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![64], ![false]⟩

@[reducible] def k0_t1_loop : Scf.Loop 32 :=
  let c0_i32_43 : BitVec 32 := 0#32
  let c32_i32 : BitVec 32 := 32#32
  let v127 : BitVec 32 := Scalar.addi c0_i32_43 c32_i32
  let c1_i32_44 : BitVec 32 := 1#32
  ⟨c0_i32_43, v127, c1_i32_44⟩
def k0_mult1 (k0_t1 : Fin k0_t1_loop.trips) : BitVec 32 :=
  let c0_i32_43 : BitVec 32 := 0#32
  let c1_i32_44 : BitVec 32 := 1#32
  let arg9 : BitVec 32 := Scf.iv c0_i32_43 c1_i32_44 k0_t1
  let c4_i32_46 : BitVec 32 := 4#32
  let v128 : BitVec 32 := Scalar.muli arg9 c4_i32_46
  let c0_i32_47 : BitVec 32 := 0#32
  let v129 : BitVec 32 := Scalar.addi v128 c0_i32_47
  let c0_i32_48 : BitVec 32 := 0#32
  let v130 : BitVec 32 := Scalar.addi v129 c0_i32_48
  let c96_i32_49 : BitVec 32 := 96#32
  let v131 : BitVec 32 := Scalar.muli v130 c96_i32_49
  v131
def k0_off1 (k0_t1 : Fin k0_t1_loop.trips) (c0_i32_47 : BitVec 32) (c0_i32_48 : BitVec 32) : Fin 2 → Nat :=
  let c0_i32_43 : BitVec 32 := 0#32
  let c1_i32_44 : BitVec 32 := 1#32
  let arg9 : BitVec 32 := Scf.iv c0_i32_43 c1_i32_44 k0_t1
  let c4_i32_46 : BitVec 32 := 4#32
  let v128 : BitVec 32 := Scalar.muli arg9 c4_i32_46
  let v129 : BitVec 32 := Scalar.addi v128 c0_i32_47
  let v130 : BitVec 32 := Scalar.addi v129 c0_i32_48
  let c96_i32_49 : BitVec 32 := 96#32
  let v131 : BitVec 32 := Scalar.muli v130 c96_i32_49
  let v132 : BitVec 32 := v131
  let v133 : Index := Scalar.indexCast v132
  let c0 : Index := 0#32
  ![v133.toNat, 0]
def k0_mult2 (k0_t1 : Fin k0_t1_loop.trips) : BitVec 32 :=
  let c0_i32_43 : BitVec 32 := 0#32
  let c1_i32_44 : BitVec 32 := 1#32
  let arg9 : BitVec 32 := Scf.iv c0_i32_43 c1_i32_44 k0_t1
  let c4_i32_46 : BitVec 32 := 4#32
  let v128 : BitVec 32 := Scalar.muli arg9 c4_i32_46
  let c0_i32_50 : BitVec 32 := 0#32
  let v137 : BitVec 32 := Scalar.addi v128 c0_i32_50
  let c1_i32_51 : BitVec 32 := 1#32
  let v138 : BitVec 32 := Scalar.addi v137 c1_i32_51
  let c96_i32_52 : BitVec 32 := 96#32
  let v139 : BitVec 32 := Scalar.muli v138 c96_i32_52
  v139
def k0_off2 (k0_t1 : Fin k0_t1_loop.trips) (c0_i32_56 : BitVec 32) : Fin 2 → Nat :=
  let c0_i32_43 : BitVec 32 := 0#32
  let c1_i32_44 : BitVec 32 := 1#32
  let arg9 : BitVec 32 := Scf.iv c0_i32_43 c1_i32_44 k0_t1
  let c4_i32_46 : BitVec 32 := 4#32
  let v128 : BitVec 32 := Scalar.muli arg9 c4_i32_46
  let v150 : BitVec 32 := Scalar.addi v128 c0_i32_56
  let v151 : Index := Scalar.indexCast v150
  let c0_57 : Index := 0#32
  ![v151.toNat, 0]
def k0_mult3 (k0_t1 : Fin k0_t1_loop.trips) : BitVec 32 :=
  let c0_i32_43 : BitVec 32 := 0#32
  let c1_i32_44 : BitVec 32 := 1#32
  let arg9 : BitVec 32 := Scf.iv c0_i32_43 c1_i32_44 k0_t1
  let c4_i32_46 : BitVec 32 := 4#32
  let v128 : BitVec 32 := Scalar.muli arg9 c4_i32_46
  let c2_i32_126 : BitVec 32 := 2#32
  let v608 : BitVec 32 := Scalar.addi v128 c2_i32_126
  let c0_i32_127 : BitVec 32 := 0#32
  let v609 : BitVec 32 := Scalar.addi v608 c0_i32_127
  let c96_i32_128 : BitVec 32 := 96#32
  let v610 : BitVec 32 := Scalar.muli v609 c96_i32_128
  v610
def k0_mult4 (k0_t1 : Fin k0_t1_loop.trips) : BitVec 32 :=
  let c0_i32_43 : BitVec 32 := 0#32
  let c1_i32_44 : BitVec 32 := 1#32
  let arg9 : BitVec 32 := Scf.iv c0_i32_43 c1_i32_44 k0_t1
  let c4_i32_46 : BitVec 32 := 4#32
  let v128 : BitVec 32 := Scalar.muli arg9 c4_i32_46
  let c2_i32_130 : BitVec 32 := 2#32
  let v616 : BitVec 32 := Scalar.addi v128 c2_i32_130
  let c1_i32_131 : BitVec 32 := 1#32
  let v617 : BitVec 32 := Scalar.addi v616 c1_i32_131
  let c96_i32_132 : BitVec 32 := 96#32
  let v618 : BitVec 32 := Scalar.muli v617 c96_i32_132
  v618
def k0_mult5 (k0_t1 : Fin k0_t1_loop.trips) : BitVec 32 :=
  let c0_i32_43 : BitVec 32 := 0#32
  let c1_i32_44 : BitVec 32 := 1#32
  let arg9 : BitVec 32 := Scf.iv c0_i32_43 c1_i32_44 k0_t1
  let c4_i32_46 : BitVec 32 := 4#32
  let v128 : BitVec 32 := Scalar.muli arg9 c4_i32_46
  let c0_i32_211 : BitVec 32 := 0#32
  let v1099 : BitVec 32 := Scalar.addi v128 c0_i32_211
  let c80_i32 : BitVec 32 := 80#32
  let v1100 : BitVec 32 := Scalar.muli v1099 c80_i32
  v1100
def k0_off3 (k0_t1 : Fin k0_t1_loop.trips) (c0_i32_211 : BitVec 32) : Fin 2 → Nat :=
  let c0_i32_43 : BitVec 32 := 0#32
  let c1_i32_44 : BitVec 32 := 1#32
  let arg9 : BitVec 32 := Scf.iv c0_i32_43 c1_i32_44 k0_t1
  let c4_i32_46 : BitVec 32 := 4#32
  let v128 : BitVec 32 := Scalar.muli arg9 c4_i32_46
  let v1099 : BitVec 32 := Scalar.addi v128 c0_i32_211
  let c80_i32 : BitVec 32 := 80#32
  let v1100 : BitVec 32 := Scalar.muli v1099 c80_i32
  let v1101 : BitVec 32 := v1100
  let v1102 : Index := Scalar.indexCast v1101
  let c0_212 : Index := 0#32
  ![v1102.toNat, 0]
def k0_mult6 (k0_t1 : Fin k0_t1_loop.trips) : BitVec 32 :=
  let c0_i32_43 : BitVec 32 := 0#32
  let c1_i32_44 : BitVec 32 := 1#32
  let arg9 : BitVec 32 := Scf.iv c0_i32_43 c1_i32_44 k0_t1
  let c4_i32_46 : BitVec 32 := 4#32
  let v128 : BitVec 32 := Scalar.muli arg9 c4_i32_46
  let c1_i32_219 : BitVec 32 := 1#32
  let v1116 : BitVec 32 := Scalar.addi v128 c1_i32_219
  let c80_i32_220 : BitVec 32 := 80#32
  let v1117 : BitVec 32 := Scalar.muli v1116 c80_i32_220
  v1117
def k0_mult7 (k0_t1 : Fin k0_t1_loop.trips) : BitVec 32 :=
  let c0_i32_43 : BitVec 32 := 0#32
  let c1_i32_44 : BitVec 32 := 1#32
  let arg9 : BitVec 32 := Scf.iv c0_i32_43 c1_i32_44 k0_t1
  let c4_i32_46 : BitVec 32 := 4#32
  let v128 : BitVec 32 := Scalar.muli arg9 c4_i32_46
  let c2_i32_228 : BitVec 32 := 2#32
  let v1133 : BitVec 32 := Scalar.addi v128 c2_i32_228
  let c80_i32_229 : BitVec 32 := 80#32
  let v1134 : BitVec 32 := Scalar.muli v1133 c80_i32_229
  v1134
def k0_mult8 (k0_t1 : Fin k0_t1_loop.trips) : BitVec 32 :=
  let c0_i32_43 : BitVec 32 := 0#32
  let c1_i32_44 : BitVec 32 := 1#32
  let arg9 : BitVec 32 := Scf.iv c0_i32_43 c1_i32_44 k0_t1
  let c4_i32_46 : BitVec 32 := 4#32
  let v128 : BitVec 32 := Scalar.muli arg9 c4_i32_46
  let c3_i32_237 : BitVec 32 := 3#32
  let v1150 : BitVec 32 := Scalar.addi v128 c3_i32_237
  let c80_i32_238 : BitVec 32 := 80#32
  let v1151 : BitVec 32 := Scalar.muli v1150 c80_i32_238
  v1151
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12288x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S320x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S320x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10240x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SecondIdeal.lean ====
variable {F : FTy → Type} [FloatOps F]
-- ==== SecondReferenceIdeal.lean ====
abbrev S40960x23x80 : Shape := ⟨3, ![40960, 23, 80]⟩
abbrev S40960 : Shape := ⟨1, ![40960]⟩
abbrev S80x4x2x40 : Shape := ⟨4, ![80, 4, 2, 40]⟩
abbrev S4x2x40 : Shape := ⟨3, ![4, 2, 40]⟩
abbrev S_ : Shape := ⟨0, ![]⟩
abbrev S40960x23x4x2x40 : Shape := ⟨5, ![40960, 23, 4, 2, 40]⟩
abbrev S40960x1x1x1x1 : Shape := ⟨5, ![40960, 1, 1, 1, 1]⟩
abbrev S1x1x4x2x40 : Shape := ⟨5, ![1, 1, 4, 2, 40]⟩
abbrev S40960x23x1x2x40 : Shape := ⟨5, ![40960, 23, 1, 2, 40]⟩
abbrev S40960x23x2x40 : Shape := ⟨4, ![40960, 23, 2, 40]⟩
abbrev S40960x2x23x23 : Shape := ⟨4, ![40960, 2, 23, 23]⟩
abbrev S40960x2x23 : Shape := ⟨3, ![40960, 2, 23]⟩
abbrev S40960x2x23x1 : Shape := ⟨4, ![40960, 2, 23, 1]⟩
abbrev S40960x2x40x23 : Shape := ⟨4, ![40960, 2, 40, 23]⟩
abbrev S40960x1x1 : Shape := ⟨3, ![40960, 1, 1]⟩

abbrev nBuf : Space → Nat
  | .hbm => 74
  | .vmem => 0
  | .smem => 0
  | _ => 0

abbrev bufTy : (tb : Table) → Fin (tcTables nBuf tb) → BufTy
  | .hbm, ⟨0, _⟩ => ⟨S40960x23x80, .bf16⟩
  | .hbm, ⟨1, _⟩ => ⟨S40960, .i32⟩
  | .hbm, ⟨2, _⟩ => ⟨S40960, .i32⟩
  | .hbm, ⟨3, _⟩ => ⟨S80x4x2x40, .bf16⟩
  | .hbm, ⟨4, _⟩ => ⟨S4x2x40, .f32⟩
  | .hbm, ⟨5, _⟩ => ⟨S40960, .f32⟩
  | .hbm, ⟨6, _⟩ => ⟨S_, .f32⟩
  | .hbm, ⟨7, _⟩ => ⟨S40960, .f32⟩
  | .hbm, ⟨8, _⟩ => ⟨S40960, .f32⟩
  | .hbm, ⟨9, _⟩ => ⟨S40960, .f32⟩
  | .hbm, ⟨10, _⟩ => ⟨S40960x23x80, .f32⟩
  | .hbm, ⟨11, _⟩ => ⟨S80x4x2x40, .f32⟩
  | .hbm, ⟨12, _⟩ => ⟨S40960x23x4x2x40, .f32⟩
  | .hbm, ⟨13, _⟩ => ⟨S40960x1x1x1x1, .f32⟩
  | .hbm, ⟨14, _⟩ => ⟨S40960x23x4x2x40, .f32⟩
  | .hbm, ⟨15, _⟩ => ⟨S40960x23x4x2x40, .f32⟩
  | .hbm, ⟨16, _⟩ => ⟨S1x1x4x2x40, .f32⟩
  | .hbm, ⟨17, _⟩ => ⟨S40960x23x4x2x40, .f32⟩
  | .hbm, ⟨18, _⟩ => ⟨S40960x23x4x2x40, .f32⟩
  | .hbm, ⟨19, _⟩ => ⟨S40960x23x1x2x40, .f32⟩
  | .hbm, ⟨20, _⟩ => ⟨S40960x23x2x40, .f32⟩
  | .hbm, ⟨21, _⟩ => ⟨S40960x23x1x2x40, .f32⟩
  | .hbm, ⟨22, _⟩ => ⟨S40960x23x2x40, .f32⟩
  | .hbm, ⟨23, _⟩ => ⟨S40960x23x1x2x40, .f32⟩
  | .hbm, ⟨24, _⟩ => ⟨S40960x23x2x40, .f32⟩
  | .hbm, ⟨25, _⟩ => ⟨S40960x23x1x2x40, .f32⟩
  | .hbm, ⟨26, _⟩ => ⟨S40960x23x2x40, .f32⟩
  | .hbm, ⟨27, _⟩ => ⟨S40960x23x2x40, .bf16⟩
  | .hbm, ⟨28, _⟩ => ⟨S40960x23x2x40, .bf16⟩
  | .hbm, ⟨29, _⟩ => ⟨S40960x2x23x23, .f32⟩
  | .hbm, ⟨30, _⟩ => ⟨S_, .f32⟩
  | .hbm, ⟨31, _⟩ => ⟨S40960x2x23x23, .f32⟩
  | .hbm, ⟨32, _⟩ => ⟨S40960x2x23x23, .f32⟩
  | .hbm, ⟨33, _⟩ => ⟨S_, .f32⟩
  | .hbm, ⟨34, _⟩ => ⟨S40960x2x23, .f32⟩
  | .hbm, ⟨35, _⟩ => ⟨S_, .f32⟩
  | .hbm, ⟨36, _⟩ => ⟨S40960x2x23, .f32⟩
  | .hbm, ⟨37, _⟩ => ⟨S40960x2x23, .f32⟩
  | .hbm, ⟨38, _⟩ => ⟨S40960x2x23x1, .f32⟩
  | .hbm, ⟨39, _⟩ => ⟨S40960x2x23x23, .f32⟩
  | .hbm, ⟨40, _⟩ => ⟨S40960x2x23x23, .f32⟩
  | .hbm, ⟨41, _⟩ => ⟨S40960x2x23x23, .f32⟩
  | .hbm, ⟨42, _⟩ => ⟨S_, .f32⟩
  | .hbm, ⟨43, _⟩ => ⟨S40960x2x23, .f32⟩
  | .hbm, ⟨44, _⟩ => ⟨S40960x2x23x1, .f32⟩
  | .hbm, ⟨45, _⟩ => ⟨S40960x2x23x23, .f32⟩
  | .hbm, ⟨46, _⟩ => ⟨S40960x2x23x23, .f32⟩
  | .hbm, ⟨47, _⟩ => ⟨S40960x2x23x23, .bf16⟩
  | .hbm, ⟨48, _⟩ => ⟨S40960x23x2x40, .bf16⟩
  | .hbm, ⟨49, _⟩ => ⟨S40960x2x40x23, .f32⟩
  | .hbm, ⟨50, _⟩ => ⟨S40960x23x2x40, .f32⟩
  | .hbm, ⟨51, _⟩ => ⟨S40960x23x2x40, .f32⟩
  | .hbm, ⟨52, _⟩ => ⟨S_, .f32⟩
  | .hbm, ⟨53, _⟩ => ⟨S40960x23x2x40, .f32⟩
  | .hbm, ⟨54, _⟩ => ⟨S40960x23x2x40, .f32⟩
  | .hbm, ⟨55, _⟩ => ⟨S40960x23x80, .f32⟩
  | .hbm, ⟨56, _⟩ => ⟨S40960, .f32⟩
  | .hbm, ⟨57, _⟩ => ⟨S40960, .f32⟩
  | .hbm, ⟨58, _⟩ => ⟨S_, .f32⟩
  | .hbm, ⟨59, _⟩ => ⟨S40960, .f32⟩
  | .hbm, ⟨60, _⟩ => ⟨S40960, .f32⟩
  | .hbm, ⟨61, _⟩ => ⟨S40960, .f32⟩
  | .hbm, ⟨62, _⟩ => ⟨S40960x1x1, .f32⟩
  | .hbm, ⟨63, _⟩ => ⟨S40960x23x80, .f32⟩
  | .hbm, ⟨64, _⟩ => ⟨S40960x23x80, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S40960x23x80, .f32⟩
  | .hbm, ⟨69, _⟩ => ⟨S40960x23x80, .f32⟩
  | .hbm, ⟨70, _⟩ => ⟨S_, .f32⟩
  | .hbm, ⟨71, _⟩ => ⟨S40960x23x80, .f32⟩
  | .hbm, ⟨72, _⟩ => ⟨S40960x23x80, .f32⟩
  | .hbm, ⟨73, _⟩ => ⟨S40960x23x80, .fp8e4m3⟩
  | _, _ => ⟨S40960x23x80, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_cst : Ref sig .tc := ⟨.hbm, 52, rfl⟩
abbrev main_call0_v0 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_cst_6 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.KRuns.lean ====
/- What the runs of the kernel share: its host lines and its blocks. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`, `hostOps0_5`, `hostOps0_6`, `hostOps0_7`, `hostOps0_8`). -/
abbrev V0 (c : Dev nD) : Valuation τ sig (Elt F) := StableHlo.after (List.flatten [hostOps0, hostOps0_1, hostOps0_2, hostOps0_3, hostOps0_4, hostOps0_5, hostOps0_6, hostOps0_7, hostOps0_8]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6, hostOps0_7, hostOps0_8] [hostOps1] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v24, main_v25, main_v26, main_v27, main_v28, main_v29}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S12288x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S320x96 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S320x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10240x128 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S320x128 .f32 := Memref.whole cc0_scratch0
abbrev scM0_1 : Memref sig .tc .vmem S8x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Own

end
-- ==== Proof.KRunA.lean ====
/- The kernel body run once, nothing said of what it leaves in the output block. -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (4) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S12288x128 .f32) (harg1 : arg1.IsWhole) (arg2 : Memref sig .tc .vmem S128x128 .f32) (harg2 : arg2.IsWhole) (arg3 : Memref sig .tc .vmem S320x96 .bf16) (harg3 : arg3.IsWhole) (arg4 : Memref sig .tc .vmem S320x128 .f32) (harg4 : arg4.IsWhole) (arg5 : Memref sig .tc .vmem S10240x128 .bf16) (harg5 : arg5.IsWhole) (arg6 : Memref sig .tc .vmem S320x128 .f32) (harg6 : arg6.IsWhole) (arg7 : Memref sig .tc .vmem S8x128 .f32) (harg7 : arg7.IsWhole)
    (x0 : Vec F S12288x128 .f32) (x1 : Vec F S128x128 .f32) (x2 : Vec F S320x96 .bf16) (x3 : Vec F S320x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_layers i arg1 harg1 arg2 harg2 arg3 harg3 arg4 harg4 arg5 harg5 arg6 harg6 arg7 harg7) K := by
    intro E K
    simp only [cc0_layers_eq_skeleton]; unfold cc0_layers_skel
    simp only [k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

end Cert.Kernel.Own

end
-- ==== Proof.KFrame.lean ====
/- The kernel runs to the end and leaves its arguments as they were. -/
module

public import proofs.«01_k».proof.Proof.KRunA
public import Idealize.ShloMosaic.Lib.Claim

@[expose] public section

-- membership in a rectangle of production extents (`View.cover_of_tiled`): the elaborator's structural look
-- recurses once per coordinate of the long axes
set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 4) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Own

end
-- ==== Proof.Run.lean ====
/- The kernel's whole body run once, with what its stores leave in the output block named.
   The loop's pieces do not depend on what the written buffers held at entry, so they are taken over junk. -/
module

public import proofs.«01_k».proof.Proof.Gen.KernelIdeal.Frame.Runs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A trip's output pieces do not depend on what the written buffers held. -/
theorem trip_indep (𝒱 : Variants) (c : Dev nD) (bd : Option 𝒱.V) (i : grid0.Coords) (arg1 : Memref sig .tc .vmem S12288x128 .f32) (harg1 : arg1.IsWhole) (arg2 : Memref sig .tc .vmem S128x128 .f32) (harg2 : arg2.IsWhole) (arg3 : Memref sig .tc .vmem S320x96 .bf16) (harg3 : arg3.IsWhole) (arg4 : Memref sig .tc .vmem S320x128 .f32) (harg4 : arg4.IsWhole) (arg5 : Memref sig .tc .vmem S10240x128 .bf16) (harg5 : arg5.IsWhole) (arg6 : Memref sig .tc .vmem S320x128 .f32) (harg6 : arg6.IsWhole) (arg7 : Memref sig .tc .vmem S8x128 .f32) (harg7 : arg7.IsWhole) (v1 : IVec S8x128 32) (v3 v5 v7 v9 v11 v25 v39 v53 v67 v81 v95 v109 v123 : IVec S8x128 1) (v124 : IVec S8x128 32) (X1 : BufTy.Contents (Elt F) arg1.view.ty) (X2 : BufTy.Contents (Elt F) arg2.view.ty) (X3 : BufTy.Contents (Elt F) arg3.view.ty) (X4 : BufTy.Contents (Elt F) arg4.view.ty) (k : Fin k0_t1_loop.trips)
    (f5 g5 : BufTy.Contents (Elt F) arg5.view.ty) (f6 g6 : BufTy.Contents (Elt F) arg6.view.ty) (f7 g7 : BufTy.Contents (Elt F) arg7.view.ty) :
    (tripL_k0_t1 (F := F) 𝒱 c bd i arg1 harg1 arg2 harg2 arg3 harg3 arg4 harg4 arg5 harg5 arg6 harg6 arg7 harg7 v1 v3 v5 v7 v9 v11 v25 v39 v53 v67 v81 v95 v109 v123 v124 X1 X2 X3 X4 k f5 f6 f7).1 = (tripL_k0_t1 (F := F) 𝒱 c bd i arg1 harg1 arg2 harg2 arg3 harg3 arg4 harg4 arg5 harg5 arg6 harg6 arg7 harg7 v1 v3 v5 v7 v9 v11 v25 v39 v53 v67 v81 v95 v109 v123 v124 X1 X2 X3 X4 k g5 g6 g7).1 := by
  unfold tripL_k0_t1
  unfold trip_k0_t1
  rfl

/-- Nor do the loop's. -/
theorem pb_indep (𝒱 : Variants) (c : Dev nD) (bd : Option 𝒱.V) (i : grid0.Coords) (arg1 : Memref sig .tc .vmem S12288x128 .f32) (harg1 : arg1.IsWhole) (arg2 : Memref sig .tc .vmem S128x128 .f32) (harg2 : arg2.IsWhole) (arg3 : Memref sig .tc .vmem S320x96 .bf16) (harg3 : arg3.IsWhole) (arg4 : Memref sig .tc .vmem S320x128 .f32) (harg4 : arg4.IsWhole) (arg5 : Memref sig .tc .vmem S10240x128 .bf16) (harg5 : arg5.IsWhole) (arg6 : Memref sig .tc .vmem S320x128 .f32) (harg6 : arg6.IsWhole) (arg7 : Memref sig .tc .vmem S8x128 .f32) (harg7 : arg7.IsWhole) (v1 : IVec S8x128 32) (v3 v5 v7 v9 v11 v25 v39 v53 v67 v81 v95 v109 v123 : IVec S8x128 1) (v124 : IVec S8x128 32) (X1 : BufTy.Contents (Elt F) arg1.view.ty) (X2 : BufTy.Contents (Elt F) arg2.view.ty) (X3 : BufTy.Contents (Elt F) arg3.view.ty) (X4 : BufTy.Contents (Elt F) arg4.view.ty)
    (f5 g5 : BufTy.Contents (Elt F) arg5.view.ty) (f6 g6 : BufTy.Contents (Elt F) arg6.view.ty) (f7 g7 : BufTy.Contents (Elt F) arg7.view.ty) :
    ∀ k : Nat, k ≤ k0_t1_loop.trips → (pb_k0_t1 (F := F) 𝒱 c bd i arg1 harg1 arg2 harg2 arg3 harg3 arg4 harg4 arg5 harg5 arg6 harg6 arg7 harg7 v1 v3 v5 v7 v9 v11 v25 v39 v53 v67 v81 v95 v109 v123 v124 X1 X2 X3 X4 f5 f6 f7 k).1 = (pb_k0_t1 (F := F) 𝒱 c bd i arg1 harg1 arg2 harg2 arg3 harg3 arg4 harg4 arg5 harg5 arg6 harg6 arg7 harg7 v1 v3 v5 v7 v9 v11 v25 v39 v53 v67 v81 v95 v109 v123 v124 X1 X2 X3 X4 g5 g6 g7 k).1
  | 0, _ => rfl
  | k + 1, h => by
    rw [pb_k0_t1_succ 𝒱 c bd i arg1 harg1 arg2 harg2 arg3 harg3 arg4 harg4 arg5 harg5 arg6 harg6 arg7 harg7 v1 v3 v5 v7 v9 v11 v25 v39 v53 v67 v81 v95 v109 v123 v124 X1 X2 X3 X4 f5 f6 f7 ⟨k, h⟩, pb_k0_t1_succ 𝒱 c bd i arg1 harg1 arg2 harg2 arg3 harg3 arg4 harg4 arg5 harg5 arg6 harg6 arg7 harg7 v1 v3 v5 v7 v9 v11 v25 v39 v53 v67 v81 v95 v109 v123 v124 X1 X2 X3 X4 g5 g6 g7 ⟨k, h⟩]
    dsimp only
    rw [pb_indep 𝒱 c bd i arg1 harg1 arg2 harg2 arg3 harg3 arg4 harg4 arg5 harg5 arg6 harg6 arg7 harg7 v1 v3 v5 v7 v9 v11 v25 v39 v53 v67 v81 v95 v109 v123 v124 X1 X2 X3 X4 f5 g5 f6 g6 f7 g7 k (by omega)]
    exact congrArg (· ++ _) (trip_indep 𝒱 c bd i arg1 harg1 arg2 harg2 arg3 harg3 arg4 harg4 arg5 harg5 arg6 harg6 arg7 harg7 v1 v3 v5 v7 v9 v11 v25 v39 v53 v67 v81 v95 v109 v123 v124 X1 X2 X3 X4 ⟨k, h⟩ _ _ _ _ _ _)

/-- The pieces the body leaves in the output block, last first. -/
def outL (c : Dev nD) (i : grid0.Coords) (arg1 : Memref sig .tc .vmem S12288x128 .f32) (harg1 : arg1.IsWhole) (arg2 : Memref sig .tc .vmem S128x128 .f32) (harg2 : arg2.IsWhole) (arg3 : Memref sig .tc .vmem S320x96 .bf16) (harg3 : arg3.IsWhole) (arg4 : Memref sig .tc .vmem S320x128 .f32) (harg4 : arg4.IsWhole) (arg5 : Memref sig .tc .vmem S10240x128 .bf16) (harg5 : arg5.IsWhole) (arg6 : Memref sig .tc .vmem S320x128 .f32) (harg6 : arg6.IsWhole) (arg7 : Memref sig .tc .vmem S8x128 .f32) (harg7 : arg7.IsWhole)
    (x0 : Vec F S12288x128 .f32) (x1 : Vec F S128x128 .f32) (x2 : Vec F S320x96 .bf16) (x3 : Vec F S320x128 .f32) : List (View.Piece (Elt F) S10240x128 .bf16) :=
  (pb_k0_t1 (F := F) Variants.none c none i arg1 harg1 arg2 harg2 arg3 harg3 arg4 harg4 arg5 harg5 arg6 harg6 arg7 harg7 (iota .tc S8x128 32 [0] iota_S8x128_d0_w32) k0_pay220 k0_pay221 k0_pay222 k0_pay223 k0_pay224 k0_pay225 k0_pay226 (k0_pay228 (iota .tc S8x128 32 [1] iota_S8x128_d1_w32) (iota .tc S8x128 32 [0] iota_S8x128_d0_w32) k0_pay227) (k0_pay229 (iota .tc S8x128 32 [1] iota_S8x128_d1_w32) (iota .tc S8x128 32 [0] iota_S8x128_d0_w32)) (k0_pay230 (iota .tc S8x128 32 [1] iota_S8x128_d1_w32) (iota .tc S8x128 32 [0] iota_S8x128_d0_w32)) (k0_pay232 (iota .tc S8x128 32 [1] iota_S8x128_d1_w32) (iota .tc S8x128 32 [0] iota_S8x128_d0_w32) k0_pay231) (k0_pay233 (iota .tc S8x128 32 [1] iota_S8x128_d1_w32) (iota .tc S8x128 32 [0] iota_S8x128_d0_w32)) (k0_pay234 (iota .tc S8x128 32 [1] iota_S8x128_d1_w32) (iota .tc S8x128 32 [0] iota_S8x128_d0_w32)) k0_pay235
    (harg1.unread x0) (harg2.unread x1) (harg3.unread x2) (harg4.unread x3) arg5.view.junk arg6.view.junk arg7.view.junk k0_t1_loop.trips).1

set_option maxHeartbeats 1000000 in
/-- The body run: inputs as they were, the output block with its pieces written, the scratch at something. -/
theorem kernelRun0_A (c : Dev nD) (i : grid0.Coords) (arg1 : Memref sig .tc .vmem S12288x128 .f32) (harg1 : arg1.IsWhole) (arg2 : Memref sig .tc .vmem S128x128 .f32) (harg2 : arg2.IsWhole) (arg3 : Memref sig .tc .vmem S320x96 .bf16) (harg3 : arg3.IsWhole) (arg4 : Memref sig .tc .vmem S320x128 .f32) (harg4 : arg4.IsWhole) (arg5 : Memref sig .tc .vmem S10240x128 .bf16) (harg5 : arg5.IsWhole) (arg6 : Memref sig .tc .vmem S320x128 .f32) (harg6 : arg6.IsWhole) (arg7 : Memref sig .tc .vmem S8x128 .f32) (harg7 : arg7.IsWhole)
    (x0 : Vec F S12288x128 .f32) (x1 : Vec F S128x128 .f32) (x2 : Vec F S320x96 .bf16) (x3 : Vec F S320x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f (outL c i arg1 harg1 arg2 harg2 arg3 harg3 arg4 harg4 arg5 harg5 arg6 harg6 arg7 harg7 x0 x1 x2 x3)) ∗ (∃ d, owns (c : Thread nD τ) arg6 fullShare d) ∗ (∃ d, owns (c : Thread nD τ) arg7 fullShare d)) -∗ K ⟨⟩))
          ⊢ wp frame (wpE (defs₀ (F := F)) Variants.none c none) E (cc0_layers i arg1 harg1 arg2 harg2 arg3 harg3 arg4 harg4 arg5 harg5 arg6 harg6 arg7 harg7) K := by
    intro E K
    unfold outL
    simp only [cc0_layers_eq_skeleton]; unfold cc0_layers_skel
    simp only [k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists f4
      rw [pb_indep (F := F) Variants.none c none i arg1 harg1 arg2 harg2 arg3 harg3 arg4 harg4 arg5 harg5 arg6 harg6 arg7 harg7 (iota .tc S8x128 32 [0] iota_S8x128_d0_w32) k0_pay220 k0_pay221 k0_pay222 k0_pay223 k0_pay224 k0_pay225 k0_pay226 (k0_pay228 (iota .tc S8x128 32 [1] iota_S8x128_d1_w32) (iota .tc S8x128 32 [0] iota_S8x128_d0_w32) k0_pay227) (k0_pay229 (iota .tc S8x128 32 [1] iota_S8x128_d1_w32) (iota .tc S8x128 32 [0] iota_S8x128_d0_w32)) (k0_pay230 (iota .tc S8x128 32 [1] iota_S8x128_d1_w32) (iota .tc S8x128 32 [0] iota_S8x128_d0_w32)) (k0_pay232 (iota .tc S8x128 32 [1] iota_S8x128_d1_w32) (iota .tc S8x128 32 [0] iota_S8x128_d0_w32) k0_pay231) (k0_pay233 (iota .tc S8x128 32 [1] iota_S8x128_d1_w32) (iota .tc S8x128 32 [0] iota_S8x128_d0_w32)) (k0_pay234 (iota .tc S8x128 32 [1] iota_S8x128_d1_w32) (iota .tc S8x128 32 [0] iota_S8x128_d0_w32)) k0_pay235 (harg1.unread x0) (harg2.unread x1) (harg3.unread x2) (harg4.unread x3) arg5.view.junk f4 arg6.view.junk fs0 arg7.view.junk fs1 k0_t1_loop.trips (le_refl _)]
      iexact H4
    isplitl [HS0]
    · iexists _, _; isplitr; swap; · iexact HS0
      ipureintro; rfl
    iexists _, _; isplitr; swap; · iexact HS1
    ipureintro; rfl

/-- The run's pieces tile the output block, so they cover it. -/
theorem cover0_A_4 (c : Dev nD) (i : grid0.Coords) (arg1 : Memref sig .tc .vmem S12288x128 .f32) (harg1 : arg1.IsWhole) (arg2 : Memref sig .tc .vmem S128x128 .f32) (harg2 : arg2.IsWhole) (arg3 : Memref sig .tc .vmem S320x96 .bf16) (harg3 : arg3.IsWhole) (arg4 : Memref sig .tc .vmem S320x128 .f32) (harg4 : arg4.IsWhole) (arg5 : Memref sig .tc .vmem S10240x128 .bf16) (harg5 : arg5.IsWhole) (arg6 : Memref sig .tc .vmem S320x128 .f32) (harg6 : arg6.IsWhole) (arg7 : Memref sig .tc .vmem S8x128 .f32) (harg7 : arg7.IsWhole)
    (x0 : Vec F S12288x128 .f32) (x1 : Vec F S128x128 .f32) (x2 : Vec F S320x96 .bf16) (x3 : Vec F S320x128 .f32) (y : S10240x128.Idx) :
    ∃ pc ∈ (outL c i arg1 harg1 arg2 harg2 arg3 harg3 arg4 harg4 arg5 harg5 arg6 harg6 arg7 harg7 x0 x1 x2 x3), y ∈ pc.1.set :=
  View.cover_of_tiledL (outL c i arg1 harg1 arg2 harg2 arg3 harg3 arg4 harg4 arg5 harg5 arg6 harg6 arg7 harg7 x0 x1 x2 x3) S80x128.size (by sl_kernel_rfl) y

/-- What the run leaves in output 4's staging buffer: its pieces read back over junk. -/
def out0_A_4 (c : Dev nD) (i : grid0.Coords) (arg1 : Memref sig .tc .vmem S12288x128 .f32) (harg1 : arg1.IsWhole) (arg2 : Memref sig .tc .vmem S128x128 .f32) (harg2 : arg2.IsWhole) (arg3 : Memref sig .tc .vmem S320x96 .bf16) (harg3 : arg3.IsWhole) (arg4 : Memref sig .tc .vmem S320x128 .f32) (harg4 : arg4.IsWhole) (arg5 : Memref sig .tc .vmem S10240x128 .bf16) (harg5 : arg5.IsWhole) (arg6 : Memref sig .tc .vmem S320x128 .f32) (harg6 : arg6.IsWhole) (arg7 : Memref sig .tc .vmem S8x128 .f32) (harg7 : arg7.IsWhole)
    (x0 : Vec F S12288x128 .f32) (x1 : Vec F S128x128 .f32) (x2 : Vec F S320x96 .bf16) (x3 : Vec F S320x128 .f32) : Vec F S10240x128 .bf16 :=
  VO0_4.read (Elt F) (VO0_4.writes (Elt F) VO0_4.junk (outL c i arg1 harg1 arg2 harg2 arg3 harg3 arg4 harg4 arg5 harg5 arg6 harg6 arg7 harg7 x0 x1 x2 x3))

/-! ## What the outputs hold after each point -/

/-- What the outputs' staging buffers hold after the body at point `t`: the run's contents at
    the point's memrefs and input blocks. -/
def outsAt0 (c : Dev nD) (t : Fin cfg0.N) : Vec F S10240x128 .bf16 :=
  out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_4
  iintro ⟨⟨⟨HS0, HS1⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%e4, H4⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Own
end
-- ==== Proof.Att.lean ====
/- One group's attention, as the loops compute it from the projected rows, read at an index. -/
module

public import proofs.«01_k».proof.Proof.Gen.KernelIdeal
public import Idealize.ShloMosaic.Lib.Pointwise

@[expose] public section

set_option maxRecDepth 65536

noncomputable section

namespace Cert.KernelIdeal.Att

open Idealize.ShloMosaic Cert.KernelIdeal Cert.KernelIdeal.Gen

section Defs

variable {F : FTy → Type} [FloatOps F]

def qT (p : FVec F S320x128 .f32) : FVec F S80x128 .bf16 :=
  truncf .bf16 (extractStridedSlice S80x128 ![0, 0] p slices_S320x128_o0_0_S80x128) bitsLt_bf16_f32
def kT (p : FVec F S320x128 .f32) : FVec F S128x80 .bf16 :=
  transpose S128x80 [1, 0] (truncf .bf16 (extractStridedSlice S80x128 ![80, 0] p slices_S320x128_o80_0_S80x128) bitsLt_bf16_f32) transposes_S80x128_p1_0_S128x80
def vT (p : FVec F S320x128 .f32) : FVec F S80x128 .bf16 :=
  truncf .bf16 (extractStridedSlice S80x128 ![160, 0] p slices_S320x128_o160_0_S80x128) bitsLt_bf16_f32
def zT : FVec F S40x128 .bf16 := broadcast S40x128 (Scalar.ofBits .bf16 0x0000#16)
def qb (p : FVec F S320x128 .f32) : FVec F S80x256 .bf16 :=
  concatenate S80x256 1 [⟨S80x128, concatenate S80x128 0 [⟨S40x128, extractStridedSlice S40x128 ![0, 0] (qT p) slices_S80x128_o0_0_S40x128⟩, ⟨S40x128, zT (F := F)⟩] concatenates_S40x128_S40x128_S80x128_d0⟩,
    ⟨S80x128, concatenate S80x128 0 [⟨S40x128, zT (F := F)⟩, ⟨S40x128, extractStridedSlice S40x128 ![40, 0] (qT p) slices_S80x128_o40_0_S40x128⟩] concatenates_S40x128_S40x128_S80x128_d0⟩] concatenates_S80x128_S80x128_S80x256_d1
def st (p : FVec F S320x128 .f32) : FVec F S120x256 .f32 :=
  matmul dot_S120x80_S80x256_S120x256_1_0_0_1_n_n none (extractStridedSlice S120x80 ![0, 0] (kT p) slices_S128x80_o0_0_S120x80) (qb p) (constant S120x256 .f32 0x00000000#32)
def sh0 (s : FVec F S120x256 .f32) : FVec F S120x128 .f32 := extractStridedSlice S120x128 ![0, 0] s slices_S120x256_o0_0_S120x128
def sh1 (s : FVec F S120x256 .f32) : FVec F S120x128 .f32 := extractStridedSlice S120x128 ![0, 128] s slices_S120x256_o0_128_S120x128

variable (b0 b1 b2 b3 : IVec S8x128 1)

def t0 (s : FVec F S120x128 .f32) (cs : FVec F S1x128 .f32) : FVec F S8x128 .f32 :=
  mulf (select b0 (extractStridedSlice S8x128 ![0, 0] s slices_S120x128_o0_0_S8x128) (select b1 (extractStridedSlice S8x128 ![24, 0] s slices_S120x128_o24_0_S8x128)
    (select b2 (extractStridedSlice S8x128 ![48, 0] s slices_S120x128_o48_0_S8x128) (select b3 (extractStridedSlice S8x128 ![72, 0] s slices_S120x128_o72_0_S8x128)
      (extractStridedSlice S8x128 ![96, 0] s slices_S120x128_o96_0_S8x128))))) (broadcastTo S8x128 cs broadcasts_S1x128_S8x128)
def t1 (s : FVec F S120x128 .f32) (cs : FVec F S1x128 .f32) : FVec F S8x128 .f32 :=
  mulf (select b0 (extractStridedSlice S8x128 ![8, 0] s slices_S120x128_o8_0_S8x128) (select b1 (extractStridedSlice S8x128 ![32, 0] s slices_S120x128_o32_0_S8x128)
    (select b2 (extractStridedSlice S8x128 ![56, 0] s slices_S120x128_o56_0_S8x128) (select b3 (extractStridedSlice S8x128 ![80, 0] s slices_S120x128_o80_0_S8x128)
      (extractStridedSlice S8x128 ![104, 0] s slices_S120x128_o104_0_S8x128))))) (broadcastTo S8x128 cs broadcasts_S1x128_S8x128)
def t2 (pad : IVec S8x128 1) (s : FVec F S120x128 .f32) (cs : FVec F S1x128 .f32) : FVec F S8x128 .f32 :=
  select pad (broadcast S8x128 (Scalar.ofBits .f32 0xFF800000#32)) (mulf (select b0 (extractStridedSlice S8x128 ![16, 0] s slices_S120x128_o16_0_S8x128) (select b1 (extractStridedSlice S8x128 ![40, 0] s slices_S120x128_o40_0_S8x128)
    (select b2 (extractStridedSlice S8x128 ![64, 0] s slices_S120x128_o64_0_S8x128) (select b3 (extractStridedSlice S8x128 ![88, 0] s slices_S120x128_o88_0_S8x128)
      (extractStridedSlice S8x128 ![112, 0] s slices_S120x128_o112_0_S8x128))))) (broadcastTo S8x128 cs broadcasts_S1x128_S8x128))
def top (x y z : FVec F S8x128 .f32) : FVec F S1x128 .f32 :=
  shapeCast S1x128 (multiReduction .maximumf [0] S128 (maximumf (maximumf x y) z) 0xFF800000#32 reduces_S8x128_S128 (.inl rfl) rfl) shapeCasts_S128_S1x128
def ee (x : FVec F S8x128 .f32) (m : FVec F S1x128 .f32) : FVec F S8x128 .f32 :=
  exp (subf x (broadcastTo S8x128 m broadcasts_S1x128_S8x128))
def den (x y z : FVec F S8x128 .f32) : FVec F S1x128 .f32 :=
  shapeCast S1x128 (multiReduction .add [0] S128 (addf (addf x y) z) 0x00000000#32 reduces_S8x128_S128 (.inl rfl) rfl) shapeCasts_S128_S1x128
def pr (x : FVec F S8x128 .f32) (d : FVec F S1x128 .f32) : FVec F S8x128 .f32 :=
  divf x (broadcastTo S8x128 d broadcasts_S1x128_S8x128)

variable (m0 m1 m2 m3 m4 m5 m6 m7 : IVec S8x128 1)

def two (m : IVec S8x128 1) (x y : FVec F S8x128 .f32) : FVec F S16x128 .bf16 :=
  interleaveRows S16x128 (select m (rowsOfParity 0 S8x128 (truncf .bf16 (concatenate S16x128 0 [⟨S8x128, x⟩, ⟨S8x128, y⟩] concatenates_S8x128_S8x128_S16x128_d0) bitsLt_bf16_f32) bitcasts_S16x128_w16_S8x128_w32) (constant S8x128 .bf16 0x0000#16))
    (select m (rowsOfParity 1 S8x128 (truncf .bf16 (concatenate S16x128 0 [⟨S8x128, x⟩, ⟨S8x128, y⟩] concatenates_S8x128_S8x128_S16x128_d0) bitsLt_bf16_f32) bitcasts_S16x128_w16_S8x128_w32) (constant S8x128 .bf16 0x0000#16)) bitcasts_S16x128_w16_S8x128_w32
def pm (x y z : FVec F S8x128 .f32) : FVec F S128x128 .bf16 :=
  concatenate S128x128 0 [⟨S16x128, two m0 x y⟩, ⟨S16x128, two m1 z x⟩, ⟨S16x128, two m2 y z⟩, ⟨S16x128, two m3 x y⟩, ⟨S16x128, two m4 z x⟩, ⟨S16x128, two m5 y z⟩, ⟨S16x128, two m6 x y⟩, ⟨S16x128, two m7 z x⟩] concatenates_S16x128_S16x128_S16x128_S16x128_S16x128_S16x128_S16x128_S16x128_S128x128_d0

/-- The probabilities of one head, laid over the keys' lanes. -/
def head (pad : IVec S8x128 1) (s : FVec F S120x128 .f32) (cs : FVec F S1x128 .f32) : FVec F S128x128 .bf16 :=
  pm m0 m1 m2 m3 m4 m5 m6 m7
    (pr (ee (t0 b0 b1 b2 b3 s cs) (top (t0 b0 b1 b2 b3 s cs) (t1 b0 b1 b2 b3 s cs) (t2 b0 b1 b2 b3 pad s cs)))
      (den (ee (t0 b0 b1 b2 b3 s cs) (top (t0 b0 b1 b2 b3 s cs) (t1 b0 b1 b2 b3 s cs) (t2 b0 b1 b2 b3 pad s cs))) (ee (t1 b0 b1 b2 b3 s cs) (top (t0 b0 b1 b2 b3 s cs) (t1 b0 b1 b2 b3 s cs) (t2 b0 b1 b2 b3 pad s cs))) (ee (t2 b0 b1 b2 b3 pad s cs) (top (t0 b0 b1 b2 b3 s cs) (t1 b0 b1 b2 b3 s cs) (t2 b0 b1 b2 b3 pad s cs)))))
    (pr (ee (t1 b0 b1 b2 b3 s cs) (top (t0 b0 b1 b2 b3 s cs) (t1 b0 b1 b2 b3 s cs) (t2 b0 b1 b2 b3 pad s cs)))
      (den (ee (t0 b0 b1 b2 b3 s cs) (top (t0 b0 b1 b2 b3 s cs) (t1 b0 b1 b2 b3 s cs) (t2 b0 b1 b2 b3 pad s cs))) (ee (t1 b0 b1 b2 b3 s cs) (top (t0 b0 b1 b2 b3 s cs) (t1 b0 b1 b2 b3 s cs) (t2 b0 b1 b2 b3 pad s cs))) (ee (t2 b0 b1 b2 b3 pad s cs) (top (t0 b0 b1 b2 b3 s cs) (t1 b0 b1 b2 b3 s cs) (t2 b0 b1 b2 b3 pad s cs)))))
    (pr (ee (t2 b0 b1 b2 b3 pad s cs) (top (t0 b0 b1 b2 b3 s cs) (t1 b0 b1 b2 b3 s cs) (t2 b0 b1 b2 b3 pad s cs)))
      (den (ee (t0 b0 b1 b2 b3 s cs) (top (t0 b0 b1 b2 b3 s cs) (t1 b0 b1 b2 b3 s cs) (t2 b0 b1 b2 b3 pad s cs))) (ee (t1 b0 b1 b2 b3 s cs) (top (t0 b0 b1 b2 b3 s cs) (t1 b0 b1 b2 b3 s cs) (t2 b0 b1 b2 b3 pad s cs))) (ee (t2 b0 b1 b2 b3 pad s cs) (top (t0 b0 b1 b2 b3 s cs) (t1 b0 b1 b2 b3 s cs) (t2 b0 b1 b2 b3 pad s cs)))))

def oo (v : FVec F S80x128 .bf16) (x y : FVec F S128x128 .bf16) : FVec F S80x256 .f32 :=
  matmul dot_S80x128_S128x256_S80x256_1_0_0_1_n_n none v (concatenate S128x256 1 [⟨S128x128, x⟩, ⟨S128x128, y⟩] concatenates_S128x128_S128x128_S128x256_d1) (constant S80x256 .f32 0x00000000#32)
def yy (p : FVec F S320x128 .f32) (o : FVec F S80x256 .f32) : FVec F S80x128 .f32 :=
  maximumf (addf (concatenate S80x128 0 [⟨S40x128, extractStridedSlice S40x128 ![0, 0] o slices_S80x256_o0_0_S40x128⟩, ⟨S40x128, extractStridedSlice S40x128 ![40, 128] o slices_S80x256_o40_128_S40x128⟩] concatenates_S40x128_S40x128_S80x128_d0)
    (extractStridedSlice S80x128 ![240, 0] p slices_S320x128_o240_0_S80x128)) (broadcast S80x128 (Scalar.ofBits .f32 0x00000000#32))

/-- One group: projected rows `p` (query, key, value, residual) and the score factor `cs` to the output rows. -/
def att (pad : IVec S8x128 1) (p : FVec F S320x128 .f32) (cs : FVec F S1x128 .f32) : FVec F S80x128 .f32 :=
  yy p (oo (vT p) (head b0 b1 b2 b3 m0 m1 m2 m3 m4 m5 m6 m7 pad (sh0 (st p)) cs) (head b0 b1 b2 b3 m0 m1 m2 m3 m4 m5 m6 m7 pad (sh1 (st p)) cs))

end Defs

/-! ## Read at an index, over the extended reals -/

/-- Eight rows of three blocks, summed or maximised, are the entries below the padding row. -/
theorem sum24 (f : Fin 24 → EReal) (h : f 23 = 0) :
    ∑ s : Fin 8, (f ⟨s.val, by omega⟩ + f ⟨8 + s.val, by omega⟩ + f ⟨16 + s.val, by omega⟩) = ∑ b : Fin 23, f ⟨b.val, by omega⟩ := by
  simp only [Fin.sum_univ_succ, Fin.val_zero, Fin.val_succ, Fin.sum_univ_zero, Nat.reduceAdd]
  have h' : f ⟨23, by omega⟩ = 0 := h
  simp only [h', add_zero]
  abel

theorem sup24 (f : Fin 24 → EReal) (h : f 23 = ⊥) :
    Finset.univ.fold max ⊥ (fun s : Fin 8 => max (max (f ⟨s.val, by omega⟩) (f ⟨8 + s.val, by omega⟩)) (f ⟨16 + s.val, by omega⟩))
      = Finset.univ.sup (fun b : Fin 23 => f ⟨b.val, by omega⟩) := by
  change Finset.univ.sup (fun s : Fin 8 => max (max (f ⟨s.val, by omega⟩) (f ⟨8 + s.val, by omega⟩)) (f ⟨16 + s.val, by omega⟩)) = _
  have key : ∀ b : Fin 24, f b ≤ Finset.univ.sup (fun b : Fin 23 => f ⟨b.val, by omega⟩) := fun b => by
    rcases Nat.lt_or_ge b.val 23 with hb | hb
    · exact Finset.le_sup (f := fun b : Fin 23 => f ⟨b.val, by omega⟩) (Finset.mem_univ ⟨b.val, hb⟩)
    · have : b = 23 := Fin.ext (by change b.val = 23; omega)
      rw [this, h]; exact bot_le
  refine le_antisymm (Finset.sup_le fun s _ => max_le (max_le (key _) (key _)) (key _)) (Finset.sup_le fun b _ => ?_)
  rcases Nat.lt_or_ge b.val 8 with hb | hb
  · exact le_trans (le_trans (le_max_left _ _) (le_max_left _ _))
      (Finset.le_sup (f := fun s : Fin 8 => max (max (f ⟨s.val, by omega⟩) (f ⟨8 + s.val, by omega⟩)) (f ⟨16 + s.val, by omega⟩)) (Finset.mem_univ ⟨b.val, hb⟩))
  rcases Nat.lt_or_ge b.val 16 with hb' | hb'
  · have e : f ⟨b.val, by omega⟩ = f ⟨8 + (b.val - 8), by omega⟩ := congrArg f (Fin.ext (by simp only; omega))
    rw [e]
    exact le_trans (le_trans (le_max_right _ _) (le_max_left _ _))
      (Finset.le_sup (f := fun s : Fin 8 => max (max (f ⟨s.val, by omega⟩) (f ⟨8 + s.val, by omega⟩)) (f ⟨16 + s.val, by omega⟩)) (Finset.mem_univ ⟨b.val - 8, by omega⟩))
  · have e : f ⟨b.val, by omega⟩ = f ⟨16 + (b.val - 16), by omega⟩ := congrArg f (Fin.ext (by simp only; omega))
    rw [e]
    exact le_trans (le_max_right _ _)
      (Finset.le_sup (f := fun s : Fin 8 => max (max (f ⟨s.val, by omega⟩) (f ⟨8 + s.val, by omega⟩)) (f ⟨16 + s.val, by omega⟩)) (Finset.mem_univ ⟨b.val - 16, by omega⟩))

theorem st0_apply (p : FVec Ideal S320x128 .f32) (r : Fin 120) (l : Fin 128) :
    sh0 (st p) (ix2 r l) = ∑ d : Fin 40, p (ix2 ⟨80 + d.val, by omega⟩ ⟨r.val, by omega⟩) * p (ix2 ⟨d.val, by omega⟩ l) := by
  pointwise [sh0, st, qb, kT, qT, zT]
  simp only [mul_zero, Finset.sum_const_zero, add_zero]

theorem st1_apply (p : FVec Ideal S320x128 .f32) (r : Fin 120) (l : Fin 128) :
    sh1 (st p) (ix2 r l) = ∑ d : Fin 40, p (ix2 ⟨120 + d.val, by omega⟩ ⟨r.val, by omega⟩) * p (ix2 ⟨40 + d.val, by omega⟩ l) := by
  pointwise [sh1, st, qb, kT, qT, zT]
  simp only [mul_zero, Finset.sum_const_zero, zero_add]
  refine Finset.sum_congr rfl fun d _ => ?_
  have e : (⟨80 + (40 + d.val), by omega⟩ : Fin 320) = ⟨120 + d.val, by omega⟩ := Fin.ext (by simp only; omega)
  rw [e]

theorem two_apply (m : IVec S8x128 1) (x y : FVec Ideal S8x128 .f32) (r : Fin 16) (l : Fin 128) :
    two m x y (ix2 r l) = if m (ix2 ⟨r.val / 2, by omega⟩ l) = 1#1 then (if h : r.val < 8 then x (ix2 ⟨r.val, h⟩ l) else y (ix2 ⟨r.val - 8, by omega⟩ l)) else 0 := by
  pointwise [two]
  have e2 : ∀ (c : BitVec 1) (a b : EReal), Scalar.select c a b = if c = 1#1 then a else b := fun c a b => rfl
  simp only [e2]
  by_cases h : r.val % 2 = 0
  · have : 2 * (r.val / 2) = r.val := by omega
    simp only [h, if_true, this]
  · have : 2 * (r.val / 2) + 1 = r.val := by omega
    simp only [h, if_false, this]

theorem yy_apply (p : FVec Ideal S320x128 .f32) (v : FVec Ideal S80x128 .bf16) (x y : FVec Ideal S128x128 .bf16) (d : Fin 80) (l : Fin 128) :
    yy p (oo v x y) (ix2 d l) = max ((∑ r : Fin 128, v (ix2 d r) * (if d.val < 40 then x (ix2 r l) else y (ix2 r l))) + p (ix2 ⟨240 + d.val, by omega⟩ l)) 0 := by
  pointwise [yy, oo]
  by_cases h : d.val < 40
  · simp only [h, dif_pos, if_true]
  · have e : (⟨40 + (d.val - 40), by omega⟩ : Fin 80) = d := Fin.ext (by simp only; omega)
    simp only [h, dif_neg, not_false_eq_true, if_false, e]

/-- The bits of the masks: which segments lie before, and which lanes own a word of two keys. -/
structure Masks (b0 b1 b2 b3 pad m0 m1 m2 m3 m4 m5 m6 m7 : IVec S8x128 1) : Prop where
  b0 : ∀ s l, b0 (ix2 s l) = if l.val < 24 then 1#1 else 0#1
  b1 : ∀ s l, b1 (ix2 s l) = if l.val < 48 then 1#1 else 0#1
  b2 : ∀ s l, b2 (ix2 s l) = if l.val < 72 then 1#1 else 0#1
  b3 : ∀ s l, b3 (ix2 s l) = if l.val < 96 then 1#1 else 0#1
  pad : ∀ s l, pad (ix2 s l) = if s.val = 7 then 1#1 else 0#1
  m0 : ∀ s l, m0 (ix2 s l) = if l.val / 24 = (0 + s.val / 4) / 3 ∧ l.val < 120 then 1#1 else 0#1
  m1 : ∀ s l, m1 (ix2 s l) = if l.val / 24 = (2 + s.val / 4) / 3 ∧ l.val < 120 then 1#1 else 0#1
  m2 : ∀ s l, m2 (ix2 s l) = if l.val / 24 = (4 + s.val / 4) / 3 ∧ l.val < 120 then 1#1 else 0#1
  m3 : ∀ s l, m3 (ix2 s l) = if l.val / 24 = (6 + s.val / 4) / 3 ∧ l.val < 120 then 1#1 else 0#1
  m4 : ∀ s l, m4 (ix2 s l) = if l.val / 24 = (8 + s.val / 4) / 3 ∧ l.val < 120 then 1#1 else 0#1
  m5 : ∀ s l, m5 (ix2 s l) = if l.val / 24 = (10 + s.val / 4) / 3 ∧ l.val < 120 then 1#1 else 0#1
  m6 : ∀ s l, m6 (ix2 s l) = if l.val / 24 = (12 + s.val / 4) / 3 ∧ l.val < 120 then 1#1 else 0#1
  m7 : ∀ s l, m7 (ix2 s l) = if l.val / 24 = (14 + s.val / 4) / 3 ∧ l.val < 120 then 1#1 else 0#1

/-- Three blocks of eight rows as one column of twenty-four. -/
def col (x y z : FVec Ideal S8x128 .f32) (l : Fin 128) (b : Fin 24) : EReal :=
  if h : b.val < 8 then x (ix2 ⟨b.val, h⟩ l) else if h2 : b.val < 16 then y (ix2 ⟨b.val - 8, by omega⟩ l) else z (ix2 ⟨b.val - 16, by omega⟩ l)

variable {b0 b1 b2 b3 pad m0 m1 m2 m3 m4 m5 m6 m7 : IVec S8x128 1}

/-- A row `r = 16 t + 8 e + s` of the laid-out probabilities belongs to block `2 t + e`. -/
theorem pm_apply (M : Masks b0 b1 b2 b3 pad m0 m1 m2 m3 m4 m5 m6 m7) (x y z : FVec Ideal S8x128 .f32) (r l : Fin 128) :
    pm m0 m1 m2 m3 m4 m5 m6 m7 x y z (ix2 r l) = if r.val / 24 = l.val / 24 ∧ l.val < 120 then col x y z l ⟨r.val % 24, by omega⟩ else 0 := by
  have one : ∀ (P : Prop) [Decidable P], ((if P then 1#1 else 0#1 : BitVec 1) = 1#1) = P := fun P _ => by by_cases h : P <;> simp [h]
  have cx : ∀ (q : ℕ) (hq : q < 8) (b : Fin 24), b.val = q → col x y z l b = x (ix2 ⟨q, hq⟩ l) := by
    rintro q hq ⟨b, hb⟩ rfl; exact dif_pos hq
  have cy : ∀ (q : ℕ) (hq : q < 8) (b : Fin 24), b.val = 8 + q → col x y z l b = y (ix2 ⟨q, hq⟩ l) := by
    rintro q hq ⟨b, hb⟩ rfl
    exact (dif_neg (by simp only; omega)).trans ((dif_pos (by simp only; omega)).trans (congrArg y (congrArg (ix2 · l) (Fin.ext (by simp only; omega)))))
  have cz : ∀ (q : ℕ) (hq : q < 8) (b : Fin 24), b.val = 16 + q → col x y z l b = z (ix2 ⟨q, hq⟩ l) := by
    rintro q hq ⟨b, hb⟩ rfl
    exact (dif_neg (by simp only; omega)).trans ((dif_neg (by simp only; omega)).trans (congrArg z (congrArg (ix2 · l) (Fin.ext (by simp only; omega)))))
  have step : ∀ (P Q : Prop) [Decidable P] [Decidable Q] (a b : EReal), (P ↔ Q) → a = b → (if P then a else 0) = if Q then b else 0 := by
    intro P Q _ _ a b h e; simp only [h, e]
  rcases r with ⟨r, hr0⟩
  pointwise [pm]
  simp only [two_apply, M.m0, M.m1, M.m2, M.m3, M.m4, M.m5, M.m6, M.m7, one]
  rcases Nat.lt_or_ge r 16 with h0 | h0
  · rw [dif_pos (show r < 16 by omega)]
    rcases Nat.lt_or_ge (r) 8 with hq | hq
    · rw [dif_pos hq]; exact step _ _ _ _ (by omega) (cx _ hq _ (by simp only; omega)).symm
    · rw [dif_neg (show ¬ r < 8 by omega)]; exact step _ _ _ _ (by omega) (cy _ (by omega) _ (by simp only; omega)).symm
  rcases Nat.lt_or_ge r 32 with h1 | h1
  · rw [dif_neg (show ¬ r < 16 by omega), dif_pos (show r - 16 < 16 by omega)]
    rcases Nat.lt_or_ge (r - 16) 8 with hq | hq
    · rw [dif_pos hq]; exact step _ _ _ _ (by omega) (cz _ hq _ (by simp only; omega)).symm
    · rw [dif_neg (show ¬ r - 16 < 8 by omega)]; exact step _ _ _ _ (by omega) (cx _ (by omega) _ (by simp only; omega)).symm
  rcases Nat.lt_or_ge r 48 with h2 | h2
  · rw [dif_neg (show ¬ r < 16 by omega), dif_neg (show ¬ r - 16 < 16 by omega), dif_pos (show r - 16 - 16 < 16 by omega)]
    rcases Nat.lt_or_ge (r - 16 - 16) 8 with hq | hq
    · rw [dif_pos hq]; exact step _ _ _ _ (by omega) (cy _ hq _ (by simp only; omega)).symm
    · rw [dif_neg (show ¬ r - 16 - 16 < 8 by omega)]; exact step _ _ _ _ (by omega) (cz _ (by omega) _ (by simp only; omega)).symm
  rcases Nat.lt_or_ge r 64 with h3 | h3
  · rw [dif_neg (show ¬ r < 16 by omega), dif_neg (show ¬ r - 16 < 16 by omega), dif_neg (show ¬ r - 16 - 16 < 16 by omega), dif_pos (show r - 16 - 16 - 16 < 16 by omega)]
    rcases Nat.lt_or_ge (r - 16 - 16 - 16) 8 with hq | hq
    · rw [dif_pos hq]; exact step _ _ _ _ (by omega) (cx _ hq _ (by simp only; omega)).symm
    · rw [dif_neg (show ¬ r - 16 - 16 - 16 < 8 by omega)]; exact step _ _ _ _ (by omega) (cy _ (by omega) _ (by simp only; omega)).symm
  rcases Nat.lt_or_ge r 80 with h4 | h4
  · rw [dif_neg (show ¬ r < 16 by omega), dif_neg (show ¬ r - 16 < 16 by omega), dif_neg (show ¬ r - 16 - 16 < 16 by omega), dif_neg (show ¬ r - 16 - 16 - 16 < 16 by omega), dif_pos (show r - 16 - 16 - 16 - 16 < 16 by omega)]
    rcases Nat.lt_or_ge (r - 16 - 16 - 16 - 16) 8 with hq | hq
    · rw [dif_pos hq]; exact step _ _ _ _ (by omega) (cz _ hq _ (by simp only; omega)).symm
    · rw [dif_neg (show ¬ r - 16 - 16 - 16 - 16 < 8 by omega)]; exact step _ _ _ _ (by omega) (cx _ (by omega) _ (by simp only; omega)).symm
  rcases Nat.lt_or_ge r 96 with h5 | h5
  · rw [dif_neg (show ¬ r < 16 by omega), dif_neg (show ¬ r - 16 < 16 by omega), dif_neg (show ¬ r - 16 - 16 < 16 by omega), dif_neg (show ¬ r - 16 - 16 - 16 < 16 by omega), dif_neg (show ¬ r - 16 - 16 - 16 - 16 < 16 by omega), dif_pos (show r - 16 - 16 - 16 - 16 - 16 < 16 by omega)]
    rcases Nat.lt_or_ge (r - 16 - 16 - 16 - 16 - 16) 8 with hq | hq
    · rw [dif_pos hq]; exact step _ _ _ _ (by omega) (cy _ hq _ (by simp only; omega)).symm
    · rw [dif_neg (show ¬ r - 16 - 16 - 16 - 16 - 16 < 8 by omega)]; exact step _ _ _ _ (by omega) (cz _ (by omega) _ (by simp only; omega)).symm
  rcases Nat.lt_or_ge r 112 with h6 | h6
  · rw [dif_neg (show ¬ r < 16 by omega), dif_neg (show ¬ r - 16 < 16 by omega), dif_neg (show ¬ r - 16 - 16 < 16 by omega), dif_neg (show ¬ r - 16 - 16 - 16 < 16 by omega), dif_neg (show ¬ r - 16 - 16 - 16 - 16 < 16 by omega), dif_neg (show ¬ r - 16 - 16 - 16 - 16 - 16 < 16 by omega), dif_pos (show r - 16 - 16 - 16 - 16 - 16 - 16 < 16 by omega)]
    rcases Nat.lt_or_ge (r - 16 - 16 - 16 - 16 - 16 - 16) 8 with hq | hq
    · rw [dif_pos hq]; exact step _ _ _ _ (by omega) (cx _ hq _ (by simp only; omega)).symm
    · rw [dif_neg (show ¬ r - 16 - 16 - 16 - 16 - 16 - 16 < 8 by omega)]; exact step _ _ _ _ (by omega) (cy _ (by omega) _ (by simp only; omega)).symm
  rw [dif_neg (show ¬ r < 16 by omega), dif_neg (show ¬ r - 16 < 16 by omega), dif_neg (show ¬ r - 16 - 16 < 16 by omega), dif_neg (show ¬ r - 16 - 16 - 16 < 16 by omega), dif_neg (show ¬ r - 16 - 16 - 16 - 16 < 16 by omega), dif_neg (show ¬ r - 16 - 16 - 16 - 16 - 16 < 16 by omega), dif_neg (show ¬ r - 16 - 16 - 16 - 16 - 16 - 16 < 16 by omega)]
  rcases Nat.lt_or_ge (r - 16 - 16 - 16 - 16 - 16 - 16 - 16) 8 with hq | hq
  · rw [dif_pos hq]; exact step _ _ _ _ (by omega) (cz _ hq _ (by simp only; omega)).symm
  · rw [dif_neg (show ¬ r - 16 - 16 - 16 - 16 - 16 - 16 - 16 < 8 by omega)]; exact step _ _ _ _ (by omega) (cx _ (by omega) _ (by simp only; omega)).symm

theorem ninf : Ideal.ofBits .f32 0xFF800000#32 = ⊥ := by simp [Ideal.ofBits, Ideal.ieee]

theorem top_apply (x y z : FVec Ideal S8x128 .f32) (l : Fin 128) :
    top x y z (ix2 0 l) = Finset.univ.fold max ⊥ (fun s : Fin 8 => max (max (x (ix2 s l)) (y (ix2 s l))) (z (ix2 s l))) := by
  pointwise [top]
  rw [ninf]

theorem den_apply (x y z : FVec Ideal S8x128 .f32) (l : Fin 128) :
    den x y z (ix2 0 l) = ∑ s : Fin 8, (x (ix2 s l) + y (ix2 s l) + z (ix2 s l)) := by
  pointwise [den]

theorem ee_apply (x : FVec Ideal S8x128 .f32) (m : FVec Ideal S1x128 .f32) (s : Fin 8) (l : Fin 128) :
    ee x m (ix2 s l) = Ideal.exp (x (ix2 s l) - m (ix2 0 l)) := by
  pointwise [ee]

theorem pr_apply (x : FVec Ideal S8x128 .f32) (m : FVec Ideal S1x128 .f32) (s : Fin 8) (l : Fin 128) :
    pr x m (ix2 s l) = Ideal.div (x (ix2 s l)) (m (ix2 0 l)) := by
  pointwise [pr]

/-- One query's scores against the keys of its own segment; the twenty-fourth is the padding row. -/
def scol (s : FVec Ideal S120x128 .f32) (cs : FVec Ideal S1x128 .f32) (i : Fin 5) (l : Fin 128) (b : Fin 24) : EReal :=
  if b.val = 23 then ⊥ else s (ix2 ⟨24 * i.val + b.val, by omega⟩ l) * cs (ix2 0 l)

theorem t0_apply (M : Masks b0 b1 b2 b3 pad m0 m1 m2 m3 m4 m5 m6 m7) (s : FVec Ideal S120x128 .f32) (cs : FVec Ideal S1x128 .f32)
    (i : Fin 5) (l : Fin 128) (hl : l.val / 24 = i.val) (j : Fin 8) :
    t0 b0 b1 b2 b3 s cs (ix2 j l) = scol s cs i l ⟨j.val, by omega⟩ := by
  pointwise [t0]
  have one : ∀ (P : Prop) [Decidable P] (a b : EReal), Scalar.select (if P then 1#1 else 0#1) a b = if P then a else b := fun P _ a b => by
    by_cases h : P <;> simp [h, Scalar.select]
  have hj : ¬ j.val = 23 := by omega
  simp only [M.b0, M.b1, M.b2, M.b3, one, scol, hj, if_false]
  congr 1
  split_ifs <;> exact congrArg s (congrArg (ix2 · l) (Fin.ext (by simp only; omega)))

theorem t1_apply (M : Masks b0 b1 b2 b3 pad m0 m1 m2 m3 m4 m5 m6 m7) (s : FVec Ideal S120x128 .f32) (cs : FVec Ideal S1x128 .f32)
    (i : Fin 5) (l : Fin 128) (hl : l.val / 24 = i.val) (j : Fin 8) :
    t1 b0 b1 b2 b3 s cs (ix2 j l) = scol s cs i l ⟨8 + j.val, by omega⟩ := by
  pointwise [t1]
  have one : ∀ (P : Prop) [Decidable P] (a b : EReal), Scalar.select (if P then 1#1 else 0#1) a b = if P then a else b := fun P _ a b => by
    by_cases h : P <;> simp [h, Scalar.select]
  have hj : ¬ 8 + j.val = 23 := by omega
  simp only [M.b0, M.b1, M.b2, M.b3, one, scol, hj, if_false]
  congr 1
  split_ifs <;> exact congrArg s (congrArg (ix2 · l) (Fin.ext (by simp only; omega)))

theorem t2_apply (M : Masks b0 b1 b2 b3 pad m0 m1 m2 m3 m4 m5 m6 m7) (s : FVec Ideal S120x128 .f32) (cs : FVec Ideal S1x128 .f32)
    (i : Fin 5) (l : Fin 128) (hl : l.val / 24 = i.val) (j : Fin 8) :
    t2 b0 b1 b2 b3 pad s cs (ix2 j l) = scol s cs i l ⟨16 + j.val, by omega⟩ := by
  pointwise [t2]
  have one : ∀ (P : Prop) [Decidable P] (a b : EReal), Scalar.select (if P then 1#1 else 0#1) a b = if P then a else b := fun P _ a b => by
    by_cases h : P <;> simp [h, Scalar.select]
  simp only [M.b0, M.b1, M.b2, M.b3, M.pad, one, scol]
  by_cases hj : j.val = 7
  · have : 16 + j.val = 23 := by omega
    simp only [hj, if_true]
    exact ninf
  have : ¬ 16 + j.val = 23 := by omega
  simp only [hj, this, if_false]
  congr 1
  split_ifs <;> exact congrArg s (congrArg (ix2 · l) (Fin.ext (by simp only; omega)))

/-- The softmax over twenty-three keys. -/
def soft (sc : Fin 23 → EReal) (b : Fin 23) : EReal :=
  Ideal.div (Ideal.exp (sc b - Finset.univ.sup sc)) (∑ b', Ideal.exp (sc b' - Finset.univ.sup sc))

theorem head_apply (M : Masks b0 b1 b2 b3 pad m0 m1 m2 m3 m4 m5 m6 m7) (s : FVec Ideal S120x128 .f32) (cs : FVec Ideal S1x128 .f32)
    (i : Fin 5) (l : Fin 128) (hl : l.val / 24 = i.val) (b : Fin 23) :
    head b0 b1 b2 b3 m0 m1 m2 m3 m4 m5 m6 m7 pad s cs (ix2 ⟨24 * i.val + b.val, by omega⟩ l)
      = soft (fun b => s (ix2 ⟨24 * i.val + b.val, by omega⟩ l) * cs (ix2 0 l)) b := by
  have hm : top (t0 b0 b1 b2 b3 s cs) (t1 b0 b1 b2 b3 s cs) (t2 b0 b1 b2 b3 pad s cs) (ix2 0 l)
      = Finset.univ.sup (fun b : Fin 23 => s (ix2 ⟨24 * i.val + b.val, by omega⟩ l) * cs (ix2 0 l)) := by
    rw [top_apply]
    simp only [t0_apply M s cs i l hl, t1_apply M s cs i l hl, t2_apply M s cs i l hl]
    rw [sup24 (scol s cs i l) (by simp [scol])]
    refine Finset.sup_congr rfl fun b _ => ?_
    have : ¬ b.val = 23 := by omega
    simp only [scol, this, if_false]
  have hd : ∀ mm : FVec Ideal S1x128 .f32, mm (ix2 0 l) = Finset.univ.sup (fun b : Fin 23 => s (ix2 ⟨24 * i.val + b.val, by omega⟩ l) * cs (ix2 0 l)) →
      den (ee (t0 b0 b1 b2 b3 s cs) mm) (ee (t1 b0 b1 b2 b3 s cs) mm) (ee (t2 b0 b1 b2 b3 pad s cs) mm) (ix2 0 l)
      = ∑ b' : Fin 23, Ideal.exp (s (ix2 ⟨24 * i.val + b'.val, by omega⟩ l) * cs (ix2 0 l) - mm (ix2 0 l)) := by
    intro mm _
    rw [den_apply]
    simp only [ee_apply, t0_apply M s cs i l hl, t1_apply M s cs i l hl, t2_apply M s cs i l hl]
    rw [sum24 (fun b => Ideal.exp (scol s cs i l b - mm (ix2 0 l))) (by
      have e : scol s cs i l 23 = ⊥ := if_pos rfl
      rw [e, EReal.bot_sub]; rfl)]
    refine Finset.sum_congr rfl fun b _ => ?_
    have : ¬ b.val = 23 := by omega
    simp only [scol, this, if_false]
  rw [head, pm_apply M]
  have e1 : (24 * i.val + b.val) / 24 = l.val / 24 ∧ l.val < 120 := by omega
  have e2 : (24 * i.val + b.val) % 24 = b.val := by omega
  simp only [e1, and_self, if_true, e2, col, pr_apply, hd _ hm, ee_apply, t0_apply M s cs i l hl, t1_apply M s cs i l hl, t2_apply M s cs i l hl, hm, soft]
  have hb : ¬ b.val = 23 := by omega
  split_ifs with h1 h2
  · simp only [scol, hb, if_false]
  · have e : 8 + (b.val - 8) = b.val := by omega
    simp only [scol, e, hb, if_false]
  · have e : 16 + (b.val - 16) = b.val := by omega
    simp only [scol, e, hb, if_false]

theorem head_off (M : Masks b0 b1 b2 b3 pad m0 m1 m2 m3 m4 m5 m6 m7) (s : FVec Ideal S120x128 .f32) (cs : FVec Ideal S1x128 .f32)
    (r l : Fin 128) (h : r.val / 24 ≠ l.val / 24 ∨ 120 ≤ l.val) :
    head b0 b1 b2 b3 m0 m1 m2 m3 m4 m5 m6 m7 pad s cs (ix2 r l) = 0 := by
  rw [head, pm_apply M, if_neg]; omega

/-- A sum over the lanes whose terms outside one segment's first twenty-three vanish. -/
theorem sum_seg (f : Fin 128 → EReal) (i : Fin 5) (h : ∀ r, (r.val / 24 ≠ i.val ∨ r.val = 24 * i.val + 23) → f r = 0) :
    ∑ r, f r = ∑ b : Fin 23, f ⟨24 * i.val + b.val, by omega⟩ := by
  symm
  refine Fintype.sum_of_injective (fun b : Fin 23 => (⟨24 * i.val + b.val, by omega⟩ : Fin 128)) (fun a b e => Fin.ext (by have := congrArg Fin.val e; simp only at this; omega)) _ _ (fun r hr => h r ?_) (fun _ => rfl)
  by_contra hc
  exact hr ⟨⟨r.val - 24 * i.val, by omega⟩, Fin.ext (by simp only; omega)⟩

/-- One group's attention at a real lane. -/
theorem att_apply (M : Masks b0 b1 b2 b3 pad m0 m1 m2 m3 m4 m5 m6 m7) (p : FVec Ideal S320x128 .f32) (cs : FVec Ideal S1x128 .f32)
    (i : Fin 5) (l : Fin 128) (hl : l.val / 24 = i.val) (hv : ∀ d : Fin 80, p (ix2 ⟨160 + d.val, by omega⟩ ⟨24 * i.val + 23, by omega⟩) = 0) (d : Fin 80) :
    att b0 b1 b2 b3 m0 m1 m2 m3 m4 m5 m6 m7 pad p cs (ix2 d l)
      = max ((∑ b : Fin 23, p (ix2 ⟨160 + d.val, by omega⟩ ⟨24 * i.val + b.val, by omega⟩)
          * soft (fun b => (∑ dd : Fin 40, p (ix2 ⟨80 + 40 * (d.val / 40) + dd.val, by omega⟩ ⟨24 * i.val + b.val, by omega⟩) * p (ix2 ⟨40 * (d.val / 40) + dd.val, by omega⟩ l)) * cs (ix2 0 l)) b)
        + p (ix2 ⟨240 + d.val, by omega⟩ l)) 0 := by
  have hvT : ∀ r, vT p (ix2 d r) = p (ix2 ⟨160 + d.val, by omega⟩ r) := fun r => by pointwise [vT]
  rw [att, yy_apply, sum_seg _ i]
  · congr 2
    refine Finset.sum_congr rfl fun b _ => ?_
    rw [hvT]
    congr 1
    by_cases h : d.val < 40
    · have e : d.val / 40 = 0 := by omega
      simp only [h, if_true, head_apply M _ _ i l hl, e]
      congr 1
      funext b
      rw [st0_apply]
      simp only [Nat.mul_zero, Nat.add_zero, Nat.zero_add]
    · have e : d.val / 40 = 1 := by omega
      simp only [h, if_false, head_apply M _ _ i l hl, e]
      congr 1
      funext b
      rw [st1_apply]
  · rintro r (hr | hr)
    · have := head_off M (sh0 (st p)) cs r l (by omega)
      have h' := head_off M (sh1 (st p)) cs r l (by omega)
      split_ifs <;> simp only [this, h', mul_zero]
    · have e : r = ⟨24 * i.val + 23, by omega⟩ := Fin.ext hr
      rw [hvT, e, hv, zero_mul]

end Cert.KernelIdeal.Att
end
-- ==== Proof.Alg.lean ====
/- The identity of extended reals that joins the two programs: a positive real factor moved through sums, a maximum with zero and a product. -/
module

public import proofs.«01_k».proof.Proof.Att

@[expose] public section

noncomputable section

namespace Cert.KernelIdeal.Alg

open Idealize.ShloMosaic

/-- A positive real number among the extended reals. -/
def PosReal (E : EReal) : Prop := ∃ r : ℝ, 0 < r ∧ E = (r : EReal)

theorem PosReal.nonneg {E : EReal} (h : PosReal E) : 0 ≤ E := by
  obtain ⟨r, h0, rfl⟩ := h
  exact_mod_cast h0.le

theorem PosReal.ne_top {E : EReal} (h : PosReal E) : E ≠ ⊤ := by
  obtain ⟨r, h0, rfl⟩ := h
  exact EReal.coe_ne_top r

theorem PosReal.mul {E G : EReal} (h : PosReal E) (h' : PosReal G) : PosReal (E * G) := by
  obtain ⟨r, h0, rfl⟩ := h
  obtain ⟨s, h1, rfl⟩ := h'
  exact ⟨r * s, mul_pos h0 h1, (EReal.coe_mul r s).symm⟩

theorem add_mul_pos {E : EReal} (h : PosReal E) (x y : EReal) : (x + y) * E = x * E + y * E := by
  rw [mul_comm, EReal.left_distrib_of_nonneg_of_ne_top h.nonneg h.ne_top, mul_comm E x, mul_comm E y]

theorem sum_mul_pos {ι : Type} (s : Finset ι) (f : ι → EReal) {E : EReal} (h : PosReal E) : (∑ i ∈ s, f i) * E = ∑ i ∈ s, f i * E := by
  classical
  induction s using Finset.induction_on with
  | empty => simp
  | insert a s ha ih => rw [Finset.sum_insert ha, Finset.sum_insert ha, add_mul_pos h, ih]

theorem max_zero_mul_pos {E : EReal} (h : PosReal E) (x : EReal) : max x 0 * E = max (x * E) 0 := by
  have hm : Monotone (fun y : EReal => y * E) := fun a b hab => mul_le_mul_of_nonneg_right hab h.nonneg
  have := hm.map_max (a := x) (b := 0)
  simpa only [zero_mul] using this

theorem exp_pos (w : EReal) (hw : ∃ r : ℝ, w = (r : EReal)) (z : ℝ) : PosReal (Ideal.exp (w * (z : EReal))) := by
  obtain ⟨r, rfl⟩ := hw
  rw [← EReal.coe_mul]
  exact ⟨Real.exp (r * z), Real.exp_pos _, rfl⟩

theorem ln2_real : ∃ r : ℝ, Ideal.ofBits .f32 0x3F317218#32 = (r : EReal) := by
  simp only [Ideal.ofBits, Ideal.ieee]
  exact ⟨_, rfl⟩

/-- The kernel takes the scale out of the projections, the reference does not. -/
theorem close (K : Fin 23 → Fin 4 → Fin 40 → EReal) {E : EReal} (hE : PosReal E) (w : EReal) (x : Fin 23) (e : Fin 40) :
    max ((∑ y, K y 2 e * Att.soft (fun y => (∑ d, K y 1 d * K x 0 d) * ((E * E) * w)) y) + K x 3 e) 0 * E
      = max ((∑ y, (K y 2 e * E) * Att.soft (fun y => (∑ d, (K x 0 d * E) * (K y 1 d * E)) * w) y) + K x 3 e * E) 0 := by
  have hs : (fun y => (∑ d, (K x 0 d * E) * (K y 1 d * E)) * w) = fun y => (∑ d, K y 1 d * K x 0 d) * ((E * E) * w) := by
    funext y
    rw [← mul_assoc, sum_mul_pos _ _ (hE.mul hE)]
    refine congrArg (· * w) (Finset.sum_congr rfl fun d _ => ?_)
    rw [mul_mul_mul_comm, mul_comm (K x 0 d)]
  rw [hs, max_zero_mul_pos hE, add_mul_pos hE, sum_mul_pos _ _ hE]
  refine congrArg (fun z => max (z + _) 0) (Finset.sum_congr rfl fun y _ => ?_)
  rw [mul_right_comm]

end Cert.KernelIdeal.Alg

end
-- ==== Proof.Trip.lean ====
module

public import proofs.«01_k».proof.Proof.Gen.KernelIdeal.Loops
public import proofs.«01_k».proof.Proof.Att

@[expose] public section

set_option maxRecDepth 16384

noncomputable section

namespace Cert.KernelIdeal.Trip

open Idealize.ShloMosaic Idealize.ShloMosaic.TcCoe Idealize.ShloMosaic.Tactic Idealize.ShloMosaic.Pointwise
open Cert.KernelIdeal Cert.KernelIdeal.Gen

variable {F : FTy → Type} [FloatOps F]

variable (𝒱 : Variants) (c : Dev nD) (bd : Option 𝒱.V) (i : grid0.Coords) (arg1 : Memref sig .tc .vmem S12288x128 .f32) (harg1 : arg1.IsWhole) (arg2 : Memref sig .tc .vmem S128x128 .f32) (harg2 : arg2.IsWhole) (arg3 : Memref sig .tc .vmem S320x96 .bf16) (harg3 : arg3.IsWhole) (arg4 : Memref sig .tc .vmem S320x128 .f32) (harg4 : arg4.IsWhole) (arg5 : Memref sig .tc .vmem S10240x128 .bf16) (harg5 : arg5.IsWhole) (arg6 : Memref sig .tc .vmem S320x128 .f32) (harg6 : arg6.IsWhole) (arg7 : Memref sig .tc .vmem S8x128 .f32) (harg7 : arg7.IsWhole) (v1 : IVec S8x128 32) (v3 v5 v7 v9 v11 v25 v39 v53 v67 v81 v95 v109 v123 : IVec S8x128 1) (v124 : IVec S8x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips)
  (f5 : BufTy.Contents (Elt F) arg5.view.ty) (f6 : BufTy.Contents (Elt F) arg6.view.ty) (f7 : BufTy.Contents (Elt F) arg7.view.ty)

/-- Two groups' projections, side by side: the weights against the two groups' codes. -/
def prj (xa xb : FVec F S96x128 .f32) (w : FVec F S320x96 .bf16) : FVec F S320x256 .f32 :=
  matmul dot_S320x96_S96x256_S320x256_1_0_0_1_n_n none (truncf .fp8e4m3 (shapeCast S320x96 w shapeCasts_S320x96_S320x96) bitsLt_fp8e4m3_bf16)
    (concatenate S96x256 1 [⟨S96x128, truncf .fp8e4m3 (shapeCast S96x128 xa shapeCasts_S96x128_S96x128) bitsLt_fp8e4m3_f32⟩, ⟨S96x128, truncf .fp8e4m3 (shapeCast S96x128 xb shapeCasts_S96x128_S96x128) bitsLt_fp8e4m3_f32⟩] concatenates_S96x128_S96x128_S96x256_d1)
    (constant S320x256 .f32 0x00000000#32)
/-- The first group's projection, scaled. -/
def prj0 (xa xb : FVec F S96x128 .f32) (w : FVec F S320x96 .bf16) (s : FVec F S320x128 .f32) : FVec F S320x128 .f32 :=
  mulf (extractStridedSlice S320x128 ![0, 0] (prj xa xb w) slices_S320x256_o0_0_S320x128) (shapeCast S320x128 s shapeCasts_S320x128_S320x128)
/-- The second group's projection, scaled. -/
def prj1 (xa xb : FVec F S96x128 .f32) (w : FVec F S320x96 .bf16) (s : FVec F S320x128 .f32) : FVec F S320x128 .f32 :=
  mulf (extractStridedSlice S320x128 ![0, 128] (prj xa xb w) slices_S320x256_o0_128_S320x128) (shapeCast S320x128 s shapeCasts_S320x128_S320x128)
/-- The factor of the scores: the square of the code scale, times the constant. -/
def fac (r : FVec F S1x128 .f32) : FVec F S1x128 .f32 :=
  mulf (mulf (shapeCast S1x128 r shapeCasts_S1x128_S1x128) (shapeCast S1x128 r shapeCasts_S1x128_S1x128)) (broadcast S1x128 (Scalar.ofBits .f32 0x3E21E89B#32))
/-- The rows times the code scale. -/
def emit (y : FVec F S80x128 .f32) (r : FVec F S1x128 .f32) : FVec F S80x128 .bf16 :=
  truncf .bf16 (mulf (shapeCast S80x128 y shapeCasts_S80x128_S80x128) (broadcastTo S80x128 (shapeCast S1x128 r shapeCasts_S1x128_S1x128) broadcasts_S1x128_S80x128)) bitsLt_bf16_f32

/-- The codes of group `4k + 2 r₁ + r₂`. -/
def xrow (r₁ r₂ : Fin 2) : Vec F S96x128 .f32 :=
  View.readAt (Elt F) arg1.view (Rect.unit (s := S12288x128) (k0_off1 k (BitVec.ofNat 32 (2 * r₁.val)) (BitVec.ofNat 32 r₂.val)) S96x128.size (k0_off1_inb k r₁ r₂)).toLoadRect X_arg1
/-- The code scales of group `4k + r`. -/
def srow (r : Fin 4) : Vec F S1x128 .f32 :=
  View.readAt (Elt F) arg2.view (Rect.unit (s := S128x128) (k0_off2 k (BitVec.ofNat 32 r.val)) S1x128.size (k0_off2_inb k r)).toLoadRect X_arg2
def wall : Vec F S320x96 .bf16 :=
  View.readAt (Elt F) arg3.view (Rect.unit (s := S320x96) ![0, 0] S320x96.size inb_S320x96_S320x96_0_0).toLoadRect X_arg3
def sall : Vec F S320x128 .f32 :=
  View.readAt (Elt F) arg4.view (Rect.unit (s := S320x128) ![0, 0] S320x128.size inb_S320x128_S320x128_0_0).toLoadRect X_arg4

theorem rcs {σ : RefSig} (v : View σ .tc .vmem S320x128 .f32) (o o' : Nat) (inb : ∀ a, (![o, 0] : Fin 2 → Nat) a + S80x128.size a ≤ S320x128.size a)
    (inb' : ∀ a, (![o', 0] : Fin 2 → Nat) a + S80x128.size a ≤ S320x128.size a) (w : Vec F S80x128 .f32) (L : List (View.Piece (Elt F) S320x128 .f32))
    (h : o + 80 ≤ o' ∨ o' + 80 ≤ o) :
    v.readCov (⟨Rect.unit (s := S320x128) ![o, 0] S80x128.size inb, w⟩ :: L) (Rect.unit (s := S320x128) ![o', 0] S80x128.size inb').toLoadRect
      = v.readCov L (Rect.unit (s := S320x128) ![o', 0] S80x128.size inb').toLoadRect := by
  refine View.readCov_cons_of_disjoint _ _ _ _ ?_
  refine LoadRect.disjoint_of_separated (Rect.unit (s := S320x128) ![o, 0] S80x128.size inb).toLoadRect (Rect.unit (s := S320x128) ![o', 0] S80x128.size inb').toLoadRect (0 : Fin 2) ?_
  have e : ∀ (o : Nat) inb, (Rect.unit (s := S320x128) ![o, 0] S80x128.size inb).toLoadRect.off (0 : Fin 2) = o := fun _ _ => rfl
  have e1 : ∀ (o : Nat) inb, (Rect.unit (s := S320x128) ![o, 0] S80x128.size inb).toLoadRect.size (0 : Fin 2) = 80 := fun _ _ => rfl
  have e2 : ∀ (o : Nat) inb, (Rect.unit (s := S320x128) ![o, 0] S80x128.size inb).toLoadRect.stride (0 : Fin 2) = 1 := fun _ _ => rfl
  rw [e, e, e1, e1, e2, e2]; omega

theorem rc3 {σ : RefSig} (v : View σ .tc .vmem S320x128 .f32) (w0 w1 w2 w3 : Vec F S80x128 .f32) :
    v.readCov [⟨Rect.unit (s := S320x128) ![240, 0] S80x128.size inb_S320x128_S80x128_240_0, w3⟩, ⟨Rect.unit (s := S320x128) ![160, 0] S80x128.size inb_S320x128_S80x128_160_0, w2⟩,
      ⟨Rect.unit (s := S320x128) ![80, 0] S80x128.size inb_S320x128_S80x128_80_0, w1⟩, ⟨Rect.unit (s := S320x128) ![0, 0] S80x128.size inb_S320x128_S80x128_0_0, w0⟩]
      (Rect.unit (s := S320x128) ![240, 0] S80x128.size inb_S320x128_S80x128_240_0).toLoadRect = w3 := View.readCov_cons_toLoadRect ..
theorem rc2 {σ : RefSig} (v : View σ .tc .vmem S320x128 .f32) (w0 w1 w2 w3 : Vec F S80x128 .f32) :
    v.readCov [⟨Rect.unit (s := S320x128) ![240, 0] S80x128.size inb_S320x128_S80x128_240_0, w3⟩, ⟨Rect.unit (s := S320x128) ![160, 0] S80x128.size inb_S320x128_S80x128_160_0, w2⟩,
      ⟨Rect.unit (s := S320x128) ![80, 0] S80x128.size inb_S320x128_S80x128_80_0, w1⟩, ⟨Rect.unit (s := S320x128) ![0, 0] S80x128.size inb_S320x128_S80x128_0_0, w0⟩]
      (Rect.unit (s := S320x128) ![160, 0] S80x128.size inb_S320x128_S80x128_160_0).toLoadRect = w2 := by
  rw [rcs v 240 160 _ _ _ _ (by omega)]; exact View.readCov_cons_toLoadRect ..
theorem rc1 {σ : RefSig} (v : View σ .tc .vmem S320x128 .f32) (w0 w1 w2 w3 : Vec F S80x128 .f32) :
    v.readCov [⟨Rect.unit (s := S320x128) ![240, 0] S80x128.size inb_S320x128_S80x128_240_0, w3⟩, ⟨Rect.unit (s := S320x128) ![160, 0] S80x128.size inb_S320x128_S80x128_160_0, w2⟩,
      ⟨Rect.unit (s := S320x128) ![80, 0] S80x128.size inb_S320x128_S80x128_80_0, w1⟩, ⟨Rect.unit (s := S320x128) ![0, 0] S80x128.size inb_S320x128_S80x128_0_0, w0⟩]
      (Rect.unit (s := S320x128) ![80, 0] S80x128.size inb_S320x128_S80x128_80_0).toLoadRect = w1 := by
  rw [rcs v 240 80 _ _ _ _ (by omega), rcs v 160 80 _ _ _ _ (by omega)]; exact View.readCov_cons_toLoadRect ..
theorem rc0 {σ : RefSig} (v : View σ .tc .vmem S320x128 .f32) (w0 w1 w2 w3 : Vec F S80x128 .f32) :
    v.readCov [⟨Rect.unit (s := S320x128) ![240, 0] S80x128.size inb_S320x128_S80x128_240_0, w3⟩, ⟨Rect.unit (s := S320x128) ![160, 0] S80x128.size inb_S320x128_S80x128_160_0, w2⟩,
      ⟨Rect.unit (s := S320x128) ![80, 0] S80x128.size inb_S320x128_S80x128_80_0, w1⟩, ⟨Rect.unit (s := S320x128) ![0, 0] S80x128.size inb_S320x128_S80x128_0_0, w0⟩]
      (Rect.unit (s := S320x128) ![0, 0] S80x128.size inb_S320x128_S80x128_0_0).toLoadRect = w0 := by
  rw [rcs v 240 0 _ _ _ _ (by omega), rcs v 160 0 _ _ _ _ (by omega), rcs v 80 0 _ _ _ _ (by omega)]; exact View.readCov_cons_toLoadRect ..

theorem pieces :
    (tripL_k0_t1 𝒱 c bd i arg1 harg1 arg2 harg2 arg3 harg3 arg4 harg4 arg5 harg5 arg6 harg6 arg7 harg7 v1 v3 v5 v7 v9 v11 v25 v39 v53 v67 v81 v95 v109 v123 v124 X_arg1 X_arg2 X_arg3 X_arg4 k f5 f6 f7).1 =
    [⟨Rect.unit (k0_off3 k (BitVec.ofNat 32 (3 : Fin 4).val)) S80x128.size (k0_off3_inb k 3),
        emit (Att.att v3 v5 v7 v9 v25 v39 v53 v67 v81 v95 v109 (k0_pay1 v1 v123 v124) v11
          (prj1 (xrow arg1 X_arg1 k 1 0) (xrow arg1 X_arg1 k 1 1) (wall arg3 X_arg3) (sall arg4 X_arg4)) (fac (srow arg2 X_arg2 k 3))) (srow arg2 X_arg2 k 3)⟩,
     ⟨Rect.unit (k0_off3 k (BitVec.ofNat 32 (2 : Fin 4).val)) S80x128.size (k0_off3_inb k 2),
        emit (Att.att v3 v5 v7 v9 v25 v39 v53 v67 v81 v95 v109 (k0_pay1 v1 v123 v124) v11
          (prj0 (xrow arg1 X_arg1 k 1 0) (xrow arg1 X_arg1 k 1 1) (wall arg3 X_arg3) (sall arg4 X_arg4)) (fac (srow arg2 X_arg2 k 2))) (srow arg2 X_arg2 k 2)⟩,
     ⟨Rect.unit (k0_off3 k (BitVec.ofNat 32 (1 : Fin 4).val)) S80x128.size (k0_off3_inb k 1),
        emit (Att.att v3 v5 v7 v9 v25 v39 v53 v67 v81 v95 v109 (k0_pay1 v1 v123 v124) v11
          (prj1 (xrow arg1 X_arg1 k 0 0) (xrow arg1 X_arg1 k 0 1) (wall arg3 X_arg3) (sall arg4 X_arg4)) (fac (srow arg2 X_arg2 k 1))) (srow arg2 X_arg2 k 1)⟩,
     ⟨Rect.unit (k0_off3 k (BitVec.ofNat 32 (0 : Fin 4).val)) S80x128.size (k0_off3_inb k 0),
        emit (Att.att v3 v5 v7 v9 v25 v39 v53 v67 v81 v95 v109 (k0_pay1 v1 v123 v124) v11
          (prj0 (xrow arg1 X_arg1 k 0 0) (xrow arg1 X_arg1 k 0 1) (wall arg3 X_arg3) (sall arg4 X_arg4)) (fac (srow arg2 X_arg2 k 0))) (srow arg2 X_arg2 k 0)⟩] := by
  unfold tripL_k0_t1
  unfold trip_k0_t1
  dsimp only
  sl_unfold_words
  refine congrArg₂ List.cons (congrArg (fun w => (⟨_, w⟩ : View.Piece (Elt F) S10240x128 .bf16)) ?_) (congrArg₂ List.cons (congrArg (fun w => (⟨_, w⟩ : View.Piece (Elt F) S10240x128 .bf16)) ?_)
    (congrArg₂ List.cons (congrArg (fun w => (⟨_, w⟩ : View.Piece (Elt F) S10240x128 .bf16)) ?_) (congrArg₂ List.cons (congrArg (fun w => (⟨_, w⟩ : View.Piece (Elt F) S10240x128 .bf16)) ?_) rfl)))
  · rw [rc3]
    change _ = emit (Att.att v3 v5 v7 v9 v25 v39 v53 v67 v81 v95 v109 (k0_pay1 v1 v123 v124) v11
          (prj1 (View.readAt (Elt F) arg1.view (Rect.unit (s := S12288x128) (k0_off1 k (BitVec.ofNat 32 (2 * (1 : Fin 2).val)) (BitVec.ofNat 32 (0 : Fin 2).val)) S96x128.size (k0_off1_inb k 1 0)).toLoadRect X_arg1) (View.readAt (Elt F) arg1.view (Rect.unit (s := S12288x128) (k0_off1 k (BitVec.ofNat 32 (2 * (1 : Fin 2).val)) (BitVec.ofNat 32 (1 : Fin 2).val)) S96x128.size (k0_off1_inb k 1 1)).toLoadRect X_arg1)
            (View.readAt (Elt F) arg3.view (Rect.unit (s := S320x96) ![0, 0] S320x96.size inb_S320x96_S320x96_0_0).toLoadRect X_arg3)
            (View.readAt (Elt F) arg4.view (Rect.unit (s := S320x128) ![0, 0] S320x128.size inb_S320x128_S320x128_0_0).toLoadRect X_arg4)) (fac (srow arg2 X_arg2 k 3))) (srow arg2 X_arg2 k 3)
    generalize View.readAt (Elt F) arg3.view _ X_arg3 = w
    generalize View.readAt (Elt F) arg4.view _ X_arg4 = s
    generalize k0_pay1 v1 v123 v124 = v126
    rfl
  · rw [rc2]
    change _ = emit (Att.att v3 v5 v7 v9 v25 v39 v53 v67 v81 v95 v109 (k0_pay1 v1 v123 v124) v11
          (prj0 (View.readAt (Elt F) arg1.view (Rect.unit (s := S12288x128) (k0_off1 k (BitVec.ofNat 32 (2 * (1 : Fin 2).val)) (BitVec.ofNat 32 (0 : Fin 2).val)) S96x128.size (k0_off1_inb k 1 0)).toLoadRect X_arg1) (View.readAt (Elt F) arg1.view (Rect.unit (s := S12288x128) (k0_off1 k (BitVec.ofNat 32 (2 * (1 : Fin 2).val)) (BitVec.ofNat 32 (1 : Fin 2).val)) S96x128.size (k0_off1_inb k 1 1)).toLoadRect X_arg1)
            (View.readAt (Elt F) arg3.view (Rect.unit (s := S320x96) ![0, 0] S320x96.size inb_S320x96_S320x96_0_0).toLoadRect X_arg3)
            (View.readAt (Elt F) arg4.view (Rect.unit (s := S320x128) ![0, 0] S320x128.size inb_S320x128_S320x128_0_0).toLoadRect X_arg4)) (fac (srow arg2 X_arg2 k 2))) (srow arg2 X_arg2 k 2)
    generalize View.readAt (Elt F) arg3.view _ X_arg3 = w
    generalize View.readAt (Elt F) arg4.view _ X_arg4 = s
    generalize k0_pay1 v1 v123 v124 = v126
    rfl
  · rw [rc1]
    change _ = emit (Att.att v3 v5 v7 v9 v25 v39 v53 v67 v81 v95 v109 (k0_pay1 v1 v123 v124) v11
          (prj1 (View.readAt (Elt F) arg1.view (Rect.unit (s := S12288x128) (k0_off1 k (BitVec.ofNat 32 (2 * (0 : Fin 2).val)) (BitVec.ofNat 32 (0 : Fin 2).val)) S96x128.size (k0_off1_inb k 0 0)).toLoadRect X_arg1) (View.readAt (Elt F) arg1.view (Rect.unit (s := S12288x128) (k0_off1 k (BitVec.ofNat 32 (2 * (0 : Fin 2).val)) (BitVec.ofNat 32 (1 : Fin 2).val)) S96x128.size (k0_off1_inb k 0 1)).toLoadRect X_arg1)
            (View.readAt (Elt F) arg3.view (Rect.unit (s := S320x96) ![0, 0] S320x96.size inb_S320x96_S320x96_0_0).toLoadRect X_arg3)
            (View.readAt (Elt F) arg4.view (Rect.unit (s := S320x128) ![0, 0] S320x128.size inb_S320x128_S320x128_0_0).toLoadRect X_arg4)) (fac (srow arg2 X_arg2 k 1))) (srow arg2 X_arg2 k 1)
    generalize View.readAt (Elt F) arg3.view _ X_arg3 = w
    generalize View.readAt (Elt F) arg4.view _ X_arg4 = s
    generalize k0_pay1 v1 v123 v124 = v126
    rfl
  · rw [rc0]
    change _ = emit (Att.att v3 v5 v7 v9 v25 v39 v53 v67 v81 v95 v109 (k0_pay1 v1 v123 v124) v11
          (prj0 (View.readAt (Elt F) arg1.view (Rect.unit (s := S12288x128) (k0_off1 k (BitVec.ofNat 32 (2 * (0 : Fin 2).val)) (BitVec.ofNat 32 (0 : Fin 2).val)) S96x128.size (k0_off1_inb k 0 0)).toLoadRect X_arg1) (View.readAt (Elt F) arg1.view (Rect.unit (s := S12288x128) (k0_off1 k (BitVec.ofNat 32 (2 * (0 : Fin 2).val)) (BitVec.ofNat 32 (1 : Fin 2).val)) S96x128.size (k0_off1_inb k 0 1)).toLoadRect X_arg1)
            (View.readAt (Elt F) arg3.view (Rect.unit (s := S320x96) ![0, 0] S320x96.size inb_S320x96_S320x96_0_0).toLoadRect X_arg3)
            (View.readAt (Elt F) arg4.view (Rect.unit (s := S320x128) ![0, 0] S320x128.size inb_S320x128_S320x128_0_0).toLoadRect X_arg4)) (fac (srow arg2 X_arg2 k 0))) (srow arg2 X_arg2 k 0)
    generalize View.readAt (Elt F) arg3.view _ X_arg3 = w
    generalize View.readAt (Elt F) arg4.view _ X_arg4 = s
    generalize k0_pay1 v1 v123 v124 = v126
    rfl

end Cert.KernelIdeal.Trip
end
-- ==== Proof.Block.lean ====
/- What the kernel body leaves in the output block, as a function of its four input blocks. -/
module

public import proofs.«01_k».proof.Proof.Att
public import proofs.«01_k».proof.Proof.Trip
public import proofs.«01_k».proof.Proof.Run
public import Idealize.ShloMosaic.Lib.Pipeline.ValueKit.Tiles

@[expose] public section

set_option maxRecDepth 16384

noncomputable section

namespace Cert.KernelIdeal.Block

open Idealize.ShloMosaic Idealize.ShloMosaic.TcCoe Idealize.ShloMosaic.Tactic Idealize.ShloMosaic.Pointwise
open Cert.KernelIdeal Cert.KernelIdeal.Gen Cert.KernelIdeal.Trip

abbrev io0 : IVec S8x128 32 := iota .tc S8x128 32 [0] iota_S8x128_d0_w32
abbrev io1 : IVec S8x128 32 := iota .tc S8x128 32 [1] iota_S8x128_d1_w32

/-- The masks the body builds are the ones the group's attention is read with. -/
theorem masks : Att.Masks k0_pay220 k0_pay221 k0_pay222 k0_pay223 k0_pay224 k0_pay225 k0_pay226 (k0_pay228 io1 io0 k0_pay227) (k0_pay229 io1 io0) (k0_pay230 io1 io0)
    (k0_pay232 io1 io0 k0_pay231) (k0_pay233 io1 io0) (k0_pay1 io0 (k0_pay234 io1 io0) k0_pay235) where
  b0 := by decide +kernel
  b1 := by decide +kernel
  b2 := by decide +kernel
  b3 := by decide +kernel
  pad := by decide +kernel
  m0 := by decide +kernel
  m1 := by decide +kernel
  m2 := by decide +kernel
  m3 := by decide +kernel
  m4 := by decide +kernel
  m5 := by decide +kernel
  m6 := by decide +kernel
  m7 := by decide +kernel

variable (x0 : Vec Ideal S12288x128 .f32) (x1 : Vec Ideal S128x128 .f32) (x2 : Vec Ideal S320x96 .bf16) (x3 : Vec Ideal S320x128 .f32)

/-- The scaled projections of group `g`. -/
def pg (g : Fin 128) : FVec Ideal S320x128 .f32 := fun i =>
  (∑ k : Fin 96, x2 (ix2 (i 0) k) * x0 (ix2 ⟨96 * g.val + k.val, by omega⟩ (i 1))) * x3 i
/-- The code scales of group `g`. -/
def rg (g : Fin 128) : FVec Ideal S1x128 .f32 := fun i => x1 (ix2 g (i 1))
/-- The attention rows of group `g`, before their code scale. -/
def ag (g : Fin 128) : FVec Ideal S80x128 .f32 :=
  Att.att k0_pay220 k0_pay221 k0_pay222 k0_pay223 k0_pay225 k0_pay226 (k0_pay228 io1 io0 k0_pay227) (k0_pay229 io1 io0) (k0_pay230 io1 io0)
    (k0_pay232 io1 io0 k0_pay231) (k0_pay233 io1 io0) (k0_pay1 io0 (k0_pay234 io1 io0) k0_pay235) k0_pay224 (pg x0 x2 x3 g) (fac (rg x1 g))
/-- The output rows of group `g`. -/
def og (g : Fin 128) : FVec Ideal S80x128 .bf16 := emit (ag x0 x1 x2 x3 g) (rg x1 g)

section Reads

variable (arg1 : Memref sig .tc .vmem S12288x128 .f32) (harg1 : arg1.IsWhole) (arg2 : Memref sig .tc .vmem S128x128 .f32) (harg2 : arg2.IsWhole) (arg3 : Memref sig .tc .vmem S320x96 .bf16) (harg3 : arg3.IsWhole) (arg4 : Memref sig .tc .vmem S320x128 .f32) (harg4 : arg4.IsWhole)

theorem lt_trips (k : Fin k0_t1_loop.trips) : k.val < 32 := Nat.lt_of_lt_of_le k.isLt k0_t1_abs.2.1

theorem xrow_apply (k : Fin k0_t1_loop.trips) (r₁ r₂ : Fin 2) (a : Fin 96) (l : Fin 128) (h : 96 * (4 * k.val + 2 * r₁.val + r₂.val) + a.val < 12288) :
    xrow (F := Ideal) arg1 (harg1.unread x0) k r₁ r₂ (ix2 a l) = x0 (ix2 ⟨96 * (4 * k.val + 2 * r₁.val + r₂.val) + a.val, h⟩ l) := by
  unfold xrow
  rw [View.readAt_eq_ld, harg1.read_unread]
  refine View.ld_unit_apply_of _ _ _ _ _ _ ?_
  refine Fin.forall_fin_two.mpr ⟨?_, ?_⟩
  · have e : k0_off1 k (BitVec.ofNat 32 (2 * r₁.val)) (BitVec.ofNat 32 r₂.val) (0 : Fin 2) = 384 * k.val + 192 * r₁.val + 96 * r₂.val := congrFun (k0_off1_eq k r₁ r₂) 0
    show 96 * (4 * k.val + 2 * r₁.val + r₂.val) + a.val = k0_off1 k (BitVec.ofNat 32 (2 * r₁.val)) (BitVec.ofNat 32 r₂.val) (0 : Fin 2) + a.val
    omega
  · have e : k0_off1 k (BitVec.ofNat 32 (2 * r₁.val)) (BitVec.ofNat 32 r₂.val) (1 : Fin 2) = 0 := congrFun (k0_off1_eq k r₁ r₂) 1
    show l.val = k0_off1 k (BitVec.ofNat 32 (2 * r₁.val)) (BitVec.ofNat 32 r₂.val) (1 : Fin 2) + l.val
    omega

theorem srow_eq (k : Fin k0_t1_loop.trips) (r : Fin 4) (h : 4 * k.val + r.val < 128) :
    srow (F := Ideal) arg2 (harg2.unread x1) k r = rg x1 ⟨4 * k.val + r.val, h⟩ := by
  funext i
  unfold srow
  rw [View.readAt_eq_ld, harg2.read_unread]
  refine View.ld_unit_apply_of _ _ _ _ _ _ ?_
  have h0 : (i 0 : Nat) = 0 := by have : (i 0 : Nat) < 1 := (i 0).isLt; omega
  refine Fin.forall_fin_two.mpr ⟨?_, ?_⟩
  · have e : k0_off2 k (BitVec.ofNat 32 r.val) (0 : Fin 2) = 4 * k.val + r.val := congrFun (k0_off2_eq k r) 0
    show 4 * k.val + r.val = k0_off2 k (BitVec.ofNat 32 r.val) (0 : Fin 2) + (i 0 : Nat)
    omega
  · have e : k0_off2 k (BitVec.ofNat 32 r.val) (1 : Fin 2) = 0 := congrFun (k0_off2_eq k r) 1
    show (i 1 : Nat) = k0_off2 k (BitVec.ofNat 32 r.val) (1 : Fin 2) + (i 1 : Nat)
    omega

theorem wall_eq : wall (F := Ideal) arg3 (harg3.unread x2) = x2 := by
  unfold wall
  rw [View.readAt_eq_ld, harg3.read_unread]
  exact View.ld_unit_lit (S := S320x96) _ x2 (by decide)

theorem sall_eq : sall (F := Ideal) arg4 (harg4.unread x3) = x3 := by
  unfold sall
  rw [View.readAt_eq_ld, harg4.read_unread]
  exact View.ld_unit_lit (S := S320x128) _ x3 (by decide)

theorem prj0_eq (k : Fin k0_t1_loop.trips) (r₁ : Fin 2) (g : Fin 128) (hg : g.val = 4 * k.val + 2 * r₁.val) :
    prj0 (xrow (F := Ideal) arg1 (harg1.unread x0) k r₁ 0) (xrow (F := Ideal) arg1 (harg1.unread x0) k r₁ 1) x2 x3 = pg x0 x2 x3 g := by
  funext i
  obtain ⟨r, l, rfl⟩ : ∃ r l, i = ix2 r l := ⟨i 0, i 1, funext (Fin.forall_fin_two.mpr ⟨rfl, rfl⟩)⟩
  have hk := lt_trips k
  pointwise [prj0, prj]
  unfold pg
  refine congrArg (· * _) (Finset.sum_congr rfl fun a _ => congrArg (_ * ·) ?_)
  rw [xrow_apply x0 arg1 harg1 k r₁ 0 a l (by have := a.isLt; have := r₁.isLt; simp only [Fin.val_zero]; omega)]
  exact congrArg x0 (congrArg (ix2 · l) (Fin.ext (by simp only [hg, Fin.val_zero]; omega)))

theorem prj1_eq (k : Fin k0_t1_loop.trips) (r₁ : Fin 2) (g : Fin 128) (hg : g.val = 4 * k.val + 2 * r₁.val + 1) :
    prj1 (xrow (F := Ideal) arg1 (harg1.unread x0) k r₁ 0) (xrow (F := Ideal) arg1 (harg1.unread x0) k r₁ 1) x2 x3 = pg x0 x2 x3 g := by
  funext i
  obtain ⟨r, l, rfl⟩ : ∃ r l, i = ix2 r l := ⟨i 0, i 1, funext (Fin.forall_fin_two.mpr ⟨rfl, rfl⟩)⟩
  have hk := lt_trips k
  pointwise [prj1, prj]
  unfold pg
  refine congrArg (· * _) (Finset.sum_congr rfl fun a _ => congrArg (_ * ·) ?_)
  rw [xrow_apply x0 arg1 harg1 k r₁ 1 a l (by have := a.isLt; have := r₁.isLt; simp only [Fin.val_one]; omega)]
  exact congrArg x0 (congrArg (ix2 · l) (Fin.ext (by simp only [hg, Fin.val_one])))

end Reads

/-- The output block read at an index: the rows of the group it belongs to. -/
def blk (y : S10240x128.Idx) : Elt Ideal .bf16 :=
  og x0 x1 x2 x3 ⟨(y 0).val / 80, by have : (y 0).val < 10240 := (y 0).isLt; omega⟩ (ix2 ⟨(y 0).val % 80, by omega⟩ (y 1))

/-- A piece that holds the block's values where it lies. -/
def Good (p : View.Piece (Elt Ideal) S10240x128 .bf16) : Prop := ∀ x, p.2 x = blk x0 x1 x2 x3 (p.1.emb x)

theorem good_of (k : Fin k0_t1_loop.trips) (r : Fin 4) (g : Fin 128) (hg : g.val = 4 * k.val + r.val) (w : FVec Ideal S80x128 .bf16) (hw : w = og x0 x1 x2 x3 g) :
    Good x0 x1 x2 x3 ⟨Rect.unit (s := S10240x128) (k0_off3 k (BitVec.ofNat 32 r.val)) S80x128.size (k0_off3_inb k r), w⟩ := by
  subst hw
  intro (x : S80x128.Idx)
  have h0 : (((Rect.unit (s := S10240x128) (k0_off3 k (BitVec.ofNat 32 r.val)) S80x128.size (k0_off3_inb k r)).emb x) 0).val = 80 * g.val + (x 0).val := by
    show k0_off3 k (BitVec.ofNat 32 r.val) 0 + 1 * (x 0).val = _
    rw [k0_off3_eq]
    show (320 * k.val + 80 * r.val) + 1 * (x 0).val = _
    omega
  have h1 : (((Rect.unit (s := S10240x128) (k0_off3 k (BitVec.ofNat 32 r.val)) S80x128.size (k0_off3_inb k r)).emb x) 1) = x 1 := by
    refine Fin.ext ?_
    show k0_off3 k (BitVec.ofNat 32 r.val) 1 + 1 * (x 1).val = _
    rw [k0_off3_eq]
    show 0 + 1 * (x 1).val = _
    omega
  have hx : (x 0).val < 80 := (x 0).isLt
  show og x0 x1 x2 x3 g x = blk x0 x1 x2 x3 _
  unfold blk
  have eg : (⟨(((Rect.unit (s := S10240x128) (k0_off3 k (BitVec.ofNat 32 r.val)) S80x128.size (k0_off3_inb k r)).emb x) 0).val / 80, by omega⟩ : Fin 128) = g := Fin.ext (by show _ / 80 = _; rw [h0]; omega)
  have ex : (ix2 (⟨(((Rect.unit (s := S10240x128) (k0_off3 k (BitVec.ofNat 32 r.val)) S80x128.size (k0_off3_inb k r)).emb x) 0).val % 80, by omega⟩ : Fin 80) (((Rect.unit (s := S10240x128) (k0_off3 k (BitVec.ofNat 32 r.val)) S80x128.size (k0_off3_inb k r)).emb x) 1) : S80x128.Idx) = x := by
    refine funext (Fin.forall_fin_two.mpr ⟨Fin.ext ?_, ?_⟩)
    · show _ % 80 = _
      rw [h0]; omega
    · exact h1
  exact (congr (congrArg _ eg) ex).symm

section Run

variable (c : Dev nD) (i : grid0.Coords) (arg1 : Memref sig .tc .vmem S12288x128 .f32) (harg1 : arg1.IsWhole) (arg2 : Memref sig .tc .vmem S128x128 .f32) (harg2 : arg2.IsWhole) (arg3 : Memref sig .tc .vmem S320x96 .bf16) (harg3 : arg3.IsWhole) (arg4 : Memref sig .tc .vmem S320x128 .f32) (harg4 : arg4.IsWhole) (arg5 : Memref sig .tc .vmem S10240x128 .bf16) (harg5 : arg5.IsWhole) (arg6 : Memref sig .tc .vmem S320x128 .f32) (harg6 : arg6.IsWhole) (arg7 : Memref sig .tc .vmem S8x128 .f32) (harg7 : arg7.IsWhole)

theorem good_trip (k : Fin k0_t1_loop.trips) (f5 : BufTy.Contents (Elt Ideal) arg5.view.ty) (f6 : BufTy.Contents (Elt Ideal) arg6.view.ty) (f7 : BufTy.Contents (Elt Ideal) arg7.view.ty) :
    ∀ p ∈ (tripL_k0_t1 (F := Ideal) Variants.none c none i arg1 harg1 arg2 harg2 arg3 harg3 arg4 harg4 arg5 harg5 arg6 harg6 arg7 harg7 io0 k0_pay220 k0_pay221 k0_pay222 k0_pay223 k0_pay224 k0_pay225 k0_pay226 (k0_pay228 io1 io0 k0_pay227) (k0_pay229 io1 io0) (k0_pay230 io1 io0) (k0_pay232 io1 io0 k0_pay231) (k0_pay233 io1 io0) (k0_pay234 io1 io0) k0_pay235
      (harg1.unread x0) (harg2.unread x1) (harg3.unread x2) (harg4.unread x3) k f5 f6 f7).1, Good x0 x1 x2 x3 p := by
  have hk := lt_trips k
  rw [pieces]
  rw [wall_eq x2 arg3 harg3, sall_eq x3 arg4 harg4]
  rw [srow_eq x1 arg2 harg2 k 0 (by simp only [Fin.val_zero]; omega), srow_eq x1 arg2 harg2 k 1 (by show 4 * k.val + 1 < 128; omega), srow_eq x1 arg2 harg2 k 2 (by show 4 * k.val + 2 < 128; omega), srow_eq x1 arg2 harg2 k 3 (by show 4 * k.val + 3 < 128; omega)]
  rw [prj0_eq x0 x2 x3 arg1 harg1 k 0 ⟨4 * k.val + 0, by omega⟩ rfl, prj1_eq x0 x2 x3 arg1 harg1 k 0 ⟨4 * k.val + 1, by omega⟩ rfl, prj0_eq x0 x2 x3 arg1 harg1 k 1 ⟨4 * k.val + 2, by omega⟩ rfl, prj1_eq x0 x2 x3 arg1 harg1 k 1 ⟨4 * k.val + 3, by omega⟩ rfl]
  intro p hp
  simp only [List.mem_cons, List.not_mem_nil, or_false] at hp
  rcases hp with rfl | rfl | rfl | rfl
  · exact good_of x0 x1 x2 x3 k 3 ⟨4 * k.val + 3, by omega⟩ rfl _ rfl
  · exact good_of x0 x1 x2 x3 k 2 ⟨4 * k.val + 2, by omega⟩ rfl _ rfl
  · exact good_of x0 x1 x2 x3 k 1 ⟨4 * k.val + 1, by omega⟩ rfl _ rfl
  · exact good_of x0 x1 x2 x3 k 0 ⟨4 * k.val + 0, by omega⟩ rfl _ rfl

theorem good_pb (f5 : BufTy.Contents (Elt Ideal) arg5.view.ty) (f6 : BufTy.Contents (Elt Ideal) arg6.view.ty) (f7 : BufTy.Contents (Elt Ideal) arg7.view.ty) : ∀ k : Nat, k ≤ k0_t1_loop.trips →
    ∀ p ∈ (pb_k0_t1 (F := Ideal) Variants.none c none i arg1 harg1 arg2 harg2 arg3 harg3 arg4 harg4 arg5 harg5 arg6 harg6 arg7 harg7 io0 k0_pay220 k0_pay221 k0_pay222 k0_pay223 k0_pay224 k0_pay225 k0_pay226 (k0_pay228 io1 io0 k0_pay227) (k0_pay229 io1 io0) (k0_pay230 io1 io0) (k0_pay232 io1 io0 k0_pay231) (k0_pay233 io1 io0) (k0_pay234 io1 io0) k0_pay235
      (harg1.unread x0) (harg2.unread x1) (harg3.unread x2) (harg4.unread x3) f5 f6 f7 k).1, Good x0 x1 x2 x3 p
  | 0, _ => fun p hp => absurd hp (List.not_mem_nil)
  | k + 1, h => by
    intro p hp
    rw [pb_k0_t1_succ Variants.none c none i arg1 harg1 arg2 harg2 arg3 harg3 arg4 harg4 arg5 harg5 arg6 harg6 arg7 harg7 _ _ _ _ _ _ _ _ _ _ _ _ _ _ _ _ _ _ _ f5 f6 f7 ⟨k, h⟩] at hp
    dsimp only at hp
    rcases List.mem_append.mp hp with hp | hp
    · exact good_trip x0 x1 x2 x3 c i arg1 harg1 arg2 harg2 arg3 harg3 arg4 harg4 arg5 harg5 arg6 harg6 arg7 harg7 ⟨k, h⟩ _ _ _ p hp
    · exact good_pb f5 f6 f7 k (by omega) p hp

/-- The output block after the body, as a function of the input blocks. -/
theorem out_eq (y : S10240x128.Idx) : Own.out0_A_4 (F := Ideal) c i arg1 harg1 arg2 harg2 arg3 harg3 arg4 harg4 arg5 harg5 arg6 harg6 arg7 harg7 x0 x1 x2 x3 y = blk x0 x1 x2 x3 y := by
  unfold Own.out0_A_4
  rw [View.read_writes_eq_canon _ _ _ (Own.cover0_A_4 c i arg1 harg1 arg2 harg2 arg3 harg3 arg4 harg4 arg5 harg5 arg6 harg6 arg7 harg7 x0 x1 x2 x3)]
  refine View.canon_eq_of_allAt _ _ _ (Own.cover0_A_4 c i arg1 harg1 arg2 harg2 arg3 harg3 arg4 harg4 arg5 harg5 arg6 harg6 arg7 harg7 x0 x1 x2 x3 y) ?_
  intro p hp x hx
  rw [← hx]
  exact good_pb x0 x1 x2 x3 c i arg1 harg1 arg2 harg2 arg3 harg3 arg4 harg4 arg5 harg5 arg6 harg6 arg7 harg7 _ _ _ _ (le_refl _) p hp x

end Run

end Cert.KernelIdeal.Block
end
-- ==== Proof.Host.lean ====
/- The host's arrays before and after the kernel, read at an index. -/
module

public import proofs.«01_k».proof.Proof.Gen.KernelIdeal
public import Idealize.ShloMosaic.Lib.Pointwise
public import Idealize.ShloMosaic.Lib.KernelVsHost

@[expose] public section

set_option maxRecDepth 16384

noncomputable section

namespace Cert.KernelIdeal.Host

open Idealize.ShloMosaic Idealize.ShloMosaic.TcCoe Idealize.ShloMosaic.Pointwise Idealize.SL.Sem
open Cert.KernelIdeal Cert.KernelIdeal.Gen

variable {F : FTy → Type} [FloatOps F]

/-- The codes as the kernel's rows. -/
def codes (a : Vec F S40960x23x80 .bf16) : Vec F S786432x128 .f32 :=
  shapeCast S786432x128 (pad S64x128x96x128 ![0, 0, 0, 0] ![0, 0, 0, 8] ![0, 0, 0, 0]
    (shapeCast S64x128x96x120 (pad S64x128x96x5x24 ![0, 0, 0, 0, 0] ![0, 0, 16, 0, 1] ![0, 0, 0, 0, 0]
      (transpose S64x128x80x5x23 [0, 2, 4, 1, 3] (shapeCast S64x5x128x23x80 (extf .f32 a bitsLt_bf16_f32) shapeCasts_S40960x23x80_S64x5x128x23x80) transposes_S64x5x128x23x80_S64x128x80x5x23_0_2_4_1_3)
      (sitofp .f32 (constantI S_ 32 0#32)) pads_S64x128x80x5x23_S64x128x96x5x24_000_000_0160_000_010 h_S_) shapeCasts_S64x128x96x5x24_S64x128x96x120)
    (sitofp .f32 (constantI S_ 32 0#32)) pads_S64x128x96x120_S64x128x96x128_000_000_000_080 h_S_) shapeCasts_S64x128x96x128_S786432x128

/-- Two to the power of the exponents. -/
def pow (a : Vec F S40960 .i32) : Vec F S40960 .f32 :=
  Idealize.ShloMosaic.Host.exp (mulf (broadcastInDim S40960 ![] bcast_S_S40960 (constant S_ .f32 0x3F317218#32)) (sitofp .f32 a))

/-- A number of each sample as the kernel's rows. -/
def rows (a : Vec F S40960 .f32) : Vec F S8192x128 .f32 :=
  shapeCast S8192x128 (pad S64x128x128 ![0, 0, 0] ![0, 0, 8] ![0, 0, 0]
    (shapeCast S64x128x120 (broadcastInDim S64x128x5x24 ![0, 1, 2, 3] bcast_S64x128x5x1_S64x128x5x24_0_1_2_3 (broadcastInDim S64x128x5x1 ![0, 1, 2] bcast_S64x128x5_S64x128x5x1_0_1_2
      (transpose S64x128x5 [0, 2, 1] (shapeCast S64x5x128 a shapeCasts_S40960_S64x5x128) transposes_S64x5x128_S64x128x5_0_2_1))) shapeCasts_S64x128x5x24_S64x128x120)
    (sitofp .f32 (constantI S_ 32 0#32)) pads_S64x128x120_S64x128x128_000_000_080 h_S_) shapeCasts_S64x128x128_S8192x128

/-- The scales as the kernel's rows. -/
def scales (a : Vec F S40960 .i32) : Vec F S8192x128 .f32 := rows (pow a)

/-- The weights, transposed and padded. -/
def wts (a : Vec F S80x4x2x40 .bf16) : Vec F S320x96 .bf16 :=
  pad S320x96 ![0, 0] ![0, 16] ![0, 0] (transpose S320x80 [1, 0] (shapeCast S80x320 a shapeCasts_S80x4x2x40_S80x320) transposes_S80x320_S320x80_1_0)
    (sitofp .bf16 (constantI S_ 32 0#32)) pads_S320x80_S320x96_000_0160 h_S_

/-- The weights' scales, along the lanes. -/
def wsc (a : Vec F S4x2x40 .f32) : Vec F S320x128 .f32 :=
  broadcastInDim S320x128 ![0, 1] bcast_S320x1_S320x128_0_1 (shapeCast S320x1 a shapeCasts_S4x2x40_S320x1)

/-- The result, from the kernel's rows. -/
def res {t : EltTy} (x : Vec F S655360x128 t) : Vec F S40960x23x80 t :=
  shapeCast S40960x23x80 (transpose S64x5x128x23x80 [0, 3, 1, 4, 2] (extractStridedSlice S64x128x80x5x23 ![0, 0, 0, 0, 0]
    (shapeCast S64x128x80x5x24 (extractStridedSlice S64x128x80x120 ![0, 0, 0, 0] (shapeCast S64x128x80x128 x shapeCasts_S655360x128_S64x128x80x128) slices_S64x128x80x128_S64x128x80x120_0_0_0_0)
      shapeCasts_S64x128x80x120_S64x128x80x5x24) slices_S64x128x80x5x24_S64x128x80x5x23_0_0_0_0_0) transposes_S64x128x80x5x23_S64x5x128x23x80_0_3_1_4_2) shapeCasts_S64x5x128x23x80_S40960x23x80

section Read

theorem zpad (j : S_.Idx) : (sitofp (F := Ideal) .f32 (constantI S_ 32 0#32)) j = 0 := by
  show ((((0#32 : BitVec 32).toInt : ℝ)) : EReal) = 0
  simp
theorem zpad' (j : S_.Idx) : (sitofp (F := Ideal) .bf16 (constantI S_ 32 0#32)) j = 0 := by
  show ((((0#32 : BitVec 32).toInt : ℝ)) : EReal) = 0
  simp

theorem codes_apply (a : Vec Ideal S40960x23x80 .bf16) (n : Fin 64) (g : Fin 128) (i : Fin 5) (p : Fin 23) (k : Fin 80) :
    codes a (ix2 ⟨(n.val * 128 + g.val) * 96 + k.val, by omega⟩ ⟨24 * i.val + p.val, by omega⟩) = a (ix3 ⟨(n.val * 5 + i.val) * 128 + g.val, by omega⟩ p k) := by
  unfold codes
  refine (shapeCast_apply _ _ _ (ix4 n g (⟨k.val, by omega⟩ : Fin 96) (⟨24 * i.val + p.val, by omega⟩ : Fin 128)) ?_).trans ?_
  · rewrite [Shape.rowMajor_val_four, Shape.rowMajor_val_two]
    show ((n.val * 128 + g.val) * 96 + k.val) * 128 + (24 * i.val + p.val) = ((n.val * 128 + g.val) * 96 + k.val) * 128 + (24 * i.val + p.val)
    rfl
  refine (pad_apply_of_inside _ _ _ _ _ _ _ _ (ix4 n g (⟨k.val, by omega⟩ : Fin 96) (⟨24 * i.val + p.val, by omega⟩ : Fin 120)) ?_).trans ?_
  · intro b
    match b with
    | ⟨0, _⟩ => show n.val = 0 + n.val * (0 + 1); omega
    | ⟨1, _⟩ => show g.val = 0 + g.val * (0 + 1); omega
    | ⟨2, _⟩ => show k.val = 0 + k.val * (0 + 1); omega
    | ⟨3, _⟩ => show 24 * i.val + p.val = 0 + (24 * i.val + p.val) * (0 + 1); omega
  refine (shapeCast_apply _ _ _ (ix5 n g (⟨k.val, by omega⟩ : Fin 96) i (⟨p.val, by omega⟩ : Fin 24)) ?_).trans ?_
  · rewrite [Shape.rowMajor_val_five, Shape.rowMajor_val_four]
    show (((n.val * 128 + g.val) * 96 + k.val) * 5 + i.val) * 24 + p.val = ((n.val * 128 + g.val) * 96 + k.val) * 120 + (24 * i.val + p.val)
    omega
  refine (pad_apply_of_inside _ _ _ _ _ _ _ _ (ix5 n g k i p) ?_).trans ?_
  · intro b
    match b with
    | ⟨0, _⟩ => show n.val = 0 + n.val * (0 + 1); omega
    | ⟨1, _⟩ => show g.val = 0 + g.val * (0 + 1); omega
    | ⟨2, _⟩ => show k.val = 0 + k.val * (0 + 1); omega
    | ⟨3, _⟩ => show i.val = 0 + i.val * (0 + 1); omega
    | ⟨4, _⟩ => show p.val = 0 + p.val * (0 + 1); omega
  refine (transpose_apply _ _ _ _ (ix5 n i g p k) ?_).trans ?_
  · intro b
    match b with
    | ⟨0, _⟩ => rfl
    | ⟨1, _⟩ => rfl
    | ⟨2, _⟩ => rfl
    | ⟨3, _⟩ => rfl
    | ⟨4, _⟩ => rfl
  refine (shapeCast_apply _ _ _ (ix3 ⟨(n.val * 5 + i.val) * 128 + g.val, by omega⟩ p k) ?_).trans rfl
  rewrite [Shape.rowMajor_val_five, Shape.rowMajor_val_three]
  rfl

theorem codes_pad (a : Vec Ideal S40960x23x80 .bf16) (n : Fin 64) (g : Fin 128) (i : Fin 5) (k : Fin 96) :
    codes a (ix2 ⟨(n.val * 128 + g.val) * 96 + k.val, by omega⟩ ⟨24 * i.val + 23, by omega⟩) = 0 := by
  unfold codes
  refine (shapeCast_apply _ _ _ (ix4 n g k (⟨24 * i.val + 23, by omega⟩ : Fin 128)) ?_).trans ?_
  · rewrite [Shape.rowMajor_val_four, Shape.rowMajor_val_two]
    rfl
  refine (pad_apply_of_inside _ _ _ _ _ _ _ _ (ix4 n g k (⟨24 * i.val + 23, by omega⟩ : Fin 120)) ?_).trans ?_
  · intro b
    match b with
    | ⟨0, _⟩ => show n.val = 0 + n.val * (0 + 1); omega
    | ⟨1, _⟩ => show g.val = 0 + g.val * (0 + 1); omega
    | ⟨2, _⟩ => show k.val = 0 + k.val * (0 + 1); omega
    | ⟨3, _⟩ => show 24 * i.val + 23 = 0 + (24 * i.val + 23) * (0 + 1); omega
  refine (shapeCast_apply _ _ _ (ix5 n g k i (⟨23, by omega⟩ : Fin 24)) ?_).trans ?_
  · rewrite [Shape.rowMajor_val_five, Shape.rowMajor_val_four]
    show (((n.val * 128 + g.val) * 96 + k.val) * 5 + i.val) * 24 + 23 = ((n.val * 128 + g.val) * 96 + k.val) * 120 + (24 * i.val + 23)
    omega
  refine (pad_apply_of_not_inside _ _ _ _ _ _ _ _ (4 : Fin 5) ?_).trans (zpad _)
  intro hh
  have h1 : (23 - 0) / (0 + 1) < 23 := hh.2.2
  omega

theorem pow_apply (a : Vec Ideal S40960 .i32) (b : Fin 40960) :
    pow a (ix1 b) = Ideal.exp ((Ideal.ofBits .f32 0x3F317218#32) * ((((a (ix1 b)) : BitVec 32).toInt : ℝ) : EReal)) := rfl

theorem rows_apply (a : Vec Ideal S40960 .f32) (n : Fin 64) (g : Fin 128) (i : Fin 5) (p : Fin 24) :
    rows a (ix2 ⟨n.val * 128 + g.val, by omega⟩ ⟨24 * i.val + p.val, by omega⟩) = a (ix1 ⟨(n.val * 5 + i.val) * 128 + g.val, by omega⟩) := by
  unfold rows
  refine (shapeCast_apply _ _ _ (ix3 n g (⟨24 * i.val + p.val, by omega⟩ : Fin 128)) ?_).trans ?_
  · rewrite [Shape.rowMajor_val_three, Shape.rowMajor_val_two]
    rfl
  refine (pad_apply_of_inside _ _ _ _ _ _ _ _ (ix3 n g (⟨24 * i.val + p.val, by omega⟩ : Fin 120)) ?_).trans ?_
  · intro b
    match b with
    | ⟨0, _⟩ => show n.val = 0 + n.val * (0 + 1); omega
    | ⟨1, _⟩ => show g.val = 0 + g.val * (0 + 1); omega
    | ⟨2, _⟩ => show 24 * i.val + p.val = 0 + (24 * i.val + p.val) * (0 + 1); omega
  refine (shapeCast_apply _ _ _ (ix4 n g i p) ?_).trans ?_
  · rewrite [Shape.rowMajor_val_four, Shape.rowMajor_val_three]
    show ((n.val * 128 + g.val) * 5 + i.val) * 24 + p.val = (n.val * 128 + g.val) * 120 + (24 * i.val + p.val)
    omega
  refine (broadcastInDim_apply _ _ _ _ (ix4 n g i (0 : Fin 1)) ?_).trans ?_
  · intro b
    match b with
    | ⟨0, _⟩ => rfl
    | ⟨1, _⟩ => rfl
    | ⟨2, _⟩ => rfl
    | ⟨3, _⟩ => rfl
  refine (broadcastInDim_apply _ _ _ _ (ix3 n g i) ?_).trans ?_
  · intro b
    match b with
    | ⟨0, _⟩ => rfl
    | ⟨1, _⟩ => rfl
    | ⟨2, _⟩ => rfl
  refine (transpose_apply _ _ _ _ (ix3 n i g) ?_).trans ?_
  · intro b
    match b with
    | ⟨0, _⟩ => rfl
    | ⟨1, _⟩ => rfl
    | ⟨2, _⟩ => rfl
  refine shapeCast_apply _ _ _ (ix1 ⟨(n.val * 5 + i.val) * 128 + g.val, by omega⟩) ?_
  rewrite [Shape.rowMajor_val_three, Shape.rowMajor_val_one]
  rfl

theorem scales_apply (a : Vec Ideal S40960 .i32) (n : Fin 64) (g : Fin 128) (i : Fin 5) (p : Fin 24) :
    scales a (ix2 ⟨n.val * 128 + g.val, by omega⟩ ⟨24 * i.val + p.val, by omega⟩) = pow a (ix1 ⟨(n.val * 5 + i.val) * 128 + g.val, by omega⟩) :=
  rows_apply (pow a) n g i p

theorem wts_apply (a : Vec Ideal S80x4x2x40 .bf16) (q : Fin 4) (h : Fin 2) (d : Fin 40) (k : Fin 80) :
    wts a (ix2 ⟨(q.val * 2 + h.val) * 40 + d.val, by omega⟩ ⟨k.val, by omega⟩) = a (ix4 k q h d) := by
  unfold wts
  refine (pad_apply_of_inside _ _ _ _ _ _ _ _ (ix2 (⟨(q.val * 2 + h.val) * 40 + d.val, by omega⟩ : Fin 320) k) ?_).trans ?_
  · intro b
    match b with
    | ⟨0, _⟩ => show (q.val * 2 + h.val) * 40 + d.val = 0 + ((q.val * 2 + h.val) * 40 + d.val) * (0 + 1); omega
    | ⟨1, _⟩ => show k.val = 0 + k.val * (0 + 1); omega
  refine (transpose_apply _ _ _ _ (ix2 k (⟨(q.val * 2 + h.val) * 40 + d.val, by omega⟩ : Fin 320)) ?_).trans ?_
  · intro b
    match b with
    | ⟨0, _⟩ => rfl
    | ⟨1, _⟩ => rfl
  refine shapeCast_apply _ _ _ (ix4 k q h d) ?_
  rewrite [Shape.rowMajor_val_four, Shape.rowMajor_val_two]
  show ((k.val * 4 + q.val) * 2 + h.val) * 40 + d.val = k.val * 320 + ((q.val * 2 + h.val) * 40 + d.val)
  omega

theorem wts_pad (a : Vec Ideal S80x4x2x40 .bf16) (r : Fin 320) (k : Fin 96) (hk : 80 ≤ k.val) : wts a (ix2 r k) = 0 := by
  unfold wts
  refine (pad_apply_of_not_inside _ _ _ _ _ _ _ _ (1 : Fin 2) ?_).trans (zpad' _)
  intro hh
  have h1 : (k.val - 0) / (0 + 1) < 80 := hh.2.2
  simp only [Nat.sub_zero, Nat.zero_add, Nat.div_one] at h1
  omega

theorem wsc_apply (a : Vec Ideal S4x2x40 .f32) (q : Fin 4) (h : Fin 2) (d : Fin 40) (l : Fin 128) :
    wsc a (ix2 ⟨(q.val * 2 + h.val) * 40 + d.val, by omega⟩ l) = a (ix3 q h d) := by
  unfold wsc
  refine (broadcastInDim_apply _ _ _ _ (ix2 (⟨(q.val * 2 + h.val) * 40 + d.val, by omega⟩ : Fin 320) (0 : Fin 1)) ?_).trans ?_
  · intro b
    match b with
    | ⟨0, _⟩ => rfl
    | ⟨1, _⟩ => rfl
  refine shapeCast_apply _ _ _ (ix3 q h d) ?_
  rewrite [Shape.rowMajor_val_three, Shape.rowMajor_val_two]
  show (q.val * 2 + h.val) * 40 + d.val = ((q.val * 2 + h.val) * 40 + d.val) * 1 + 0
  omega

theorem res_apply {t : EltTy} (x : Vec Ideal S655360x128 t) (n : Fin 64) (g : Fin 128) (i : Fin 5) (p : Fin 23) (d : Fin 80) :
    res x (ix3 ⟨(n.val * 5 + i.val) * 128 + g.val, by omega⟩ p d) = x (ix2 ⟨(n.val * 128 + g.val) * 80 + d.val, by omega⟩ ⟨24 * i.val + p.val, by omega⟩) := by
  unfold res
  refine (shapeCast_apply _ _ _ (ix5 n i g p d) ?_).trans ?_
  · rewrite [Shape.rowMajor_val_five, Shape.rowMajor_val_three]
    rfl
  refine (transpose_apply _ _ _ _ (ix5 n g d i p) ?_).trans ?_
  · intro b
    match b with
    | ⟨0, _⟩ => rfl
    | ⟨1, _⟩ => rfl
    | ⟨2, _⟩ => rfl
    | ⟨3, _⟩ => rfl
    | ⟨4, _⟩ => rfl
  refine (extractStridedSlice_apply _ _ _ _ (ix5 n g d i (⟨p.val, by omega⟩ : Fin 24)) ?_).trans ?_
  · intro b
    match b with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => exact (Nat.zero_add _).symm
  refine (shapeCast_apply _ _ _ (ix4 n g d (⟨24 * i.val + p.val, by omega⟩ : Fin 120)) ?_).trans ?_
  · rewrite [Shape.rowMajor_val_five, Shape.rowMajor_val_four]
    show ((n.val * 128 + g.val) * 80 + d.val) * 120 + (24 * i.val + p.val) = (((n.val * 128 + g.val) * 80 + d.val) * 5 + i.val) * 24 + p.val
    omega
  refine (extractStridedSlice_apply _ _ _ _ (ix4 n g d (⟨24 * i.val + p.val, by omega⟩ : Fin 128)) ?_).trans ?_
  · intro b
    match b with
    | ⟨0, _⟩ => exact (Nat.zero_add _).symm
    | ⟨1, _⟩ => exact (Nat.zero_add _).symm
    | ⟨2, _⟩ => exact (Nat.zero_add _).symm
    | ⟨3, _⟩ => exact (Nat.zero_add _).symm
  refine shapeCast_apply _ _ _ (ix2 ⟨(n.val * 128 + g.val) * 80 + d.val, by omega⟩ ⟨24 * i.val + p.val, by omega⟩) ?_
  rewrite [Shape.rowMajor_val_four, Shape.rowMajor_val_two]
  rfl

end Read

end Cert.KernelIdeal.Host

end
-- ==== Proof.Ker.lean ====
/- The kernel's output rows, as a formula in the arguments. -/
module

public import proofs.«01_k».proof.Proof.Block
public import proofs.«01_k».proof.Proof.Host

@[expose] public section

set_option backward.proofsInPublic true
set_option maxRecDepth 16384

noncomputable section

namespace Cert.KernelIdeal.Ker

open Idealize.ShloMosaic Idealize.ShloMosaic.TcCoe Idealize.ShloMosaic.Pointwise Idealize.SL.Sem
open Cert.KernelIdeal Cert.KernelIdeal.Gen Cert.KernelIdeal.Trip

variable (a0 : Vec Ideal S40960x23x80 .bf16) (a1 : Vec Ideal S40960 .i32) (a2 : Vec Ideal S80x4x2x40 .bf16) (a3 : Vec Ideal S4x2x40 .f32)

/-- A projected code, without the code scale. -/
def kp (b : Fin 40960) (h : Fin 2) (x : Fin 23) (q : Fin 4) (e : Fin 40) : EReal :=
  (∑ k : Fin 80, a2 (ix4 k q h e) * a0 (ix3 b x k)) * a3 (ix3 q h e)

/-- The code scale of a sample. -/
def es (b : Fin 40960) : EReal := Host.pow a1 (ix1 b)

variable (x0 : Vec Ideal S12288x128 .f32) (x1 : Vec Ideal S128x128 .f32) (x2 : Vec Ideal S320x96 .bf16) (x3 : Vec Ideal S320x128 .f32)

theorem pg_ix2 (g : Fin 128) (r : Fin 320) (l : Fin 128) :
    Block.pg x0 x2 x3 g (ix2 r l) = (∑ k : Fin 96, x2 (ix2 r k) * x0 (ix2 ⟨96 * g.val + k.val, by omega⟩ l)) * x3 (ix2 r l) := rfl
theorem rg_ix2 (g : Fin 128) (l : Fin 128) : Block.rg x1 g (ix2 0 l) = x1 (ix2 g l) := rfl

section At

variable (n : Fin 64) (g : Fin 128)
  (h0 : ∀ (k : Fin 96) (l : Fin 128), x0 (ix2 ⟨96 * g.val + k.val, by omega⟩ l) = Host.codes a0 (ix2 ⟨(n.val * 128 + g.val) * 96 + k.val, by omega⟩ l))
  (h1 : ∀ l : Fin 128, x1 (ix2 g l) = Host.scales a1 (ix2 ⟨n.val * 128 + g.val, by omega⟩ l))
  (h2 : x2 = Host.wts a2) (h3 : x3 = Host.wsc a3)

include h0 h2 h3 in
theorem pg_at (i : Fin 5) (p : Fin 23) (q : Fin 4) (h : Fin 2) (e : Fin 40) (r : Fin 320) (hr : r.val = (q.val * 2 + h.val) * 40 + e.val) (l : Fin 128) (hl : l.val = 24 * i.val + p.val) :
    Block.pg x0 x2 x3 g (ix2 r l) = kp a0 a2 a3 ⟨(n.val * 5 + i.val) * 128 + g.val, by omega⟩ h p q e := by
  obtain ⟨r, _⟩ := r
  obtain rfl := hr
  obtain ⟨l, _⟩ := l
  obtain rfl := hl
  subst h2 h3
  rw [pg_ix2, Host.wsc_apply]
  unfold kp
  refine congrArg (· * _) ?_
  refine (Fin.sum_univ_add (a := 80) (b := 16) _).trans ?_
  rw [Finset.sum_eq_zero (f := fun k : Fin 16 => _), add_zero]
  · refine Finset.sum_congr rfl fun k _ => ?_
    rw [h0]
    exact congr (congrArg HMul.hMul (Host.wts_apply a2 q h e k)) (Host.codes_apply a0 n g i p k)
  · intro k _
    rw [Host.wts_pad a2 _ _ (by show 80 ≤ 80 + k.val; omega), zero_mul]

include h0 in
theorem pg_pad (i : Fin 5) (r : Fin 320) (l : Fin 128) (hl : l.val = 24 * i.val + 23) : Block.pg x0 x2 x3 g (ix2 r l) = 0 := by
  obtain ⟨l, _⟩ := l
  obtain rfl := hl
  rw [pg_ix2, Finset.sum_eq_zero, zero_mul]
  intro k _
  rw [h0, Host.codes_pad, mul_zero]

include h1 in
theorem rg_at (i : Fin 5) (p : Fin 23) (l : Fin 128) (hl : l.val = 24 * i.val + p.val) :
    Block.rg x1 g (ix2 0 l) = es a1 ⟨(n.val * 5 + i.val) * 128 + g.val, by omega⟩ := by
  obtain ⟨l, _⟩ := l
  obtain rfl := hl
  rw [rg_ix2, h1]
  exact Host.scales_apply a1 n g i ⟨p.val, by omega⟩

theorem fac_apply (r : FVec Ideal S1x128 .f32) (l : Fin 128) : fac r (ix2 0 l) = (r (ix2 0 l) * r (ix2 0 l)) * Ideal.ofBits .f32 0x3E21E89B#32 := by
  pointwise [fac]
theorem emit_apply (y : FVec Ideal S80x128 .f32) (r : FVec Ideal S1x128 .f32) (d : Fin 80) (l : Fin 128) : emit y r (ix2 d l) = y (ix2 d l) * r (ix2 0 l) := by
  pointwise [emit]

include h0 h1 h2 h3 in
/-- One attention row at one lane. -/
theorem ag_at (i : Fin 5) (p : Fin 23) (h : Fin 2) (e : Fin 40) (d : Fin 80) (hd : d.val = h.val * 40 + e.val) (l : Fin 128) (hl : l.val = 24 * i.val + p.val)
    (b : Fin 40960) (hb : b.val = (n.val * 5 + i.val) * 128 + g.val) :
    Block.ag x0 x1 x2 x3 g (ix2 d l)
      = max ((∑ y, kp a0 a2 a3 b h y 2 e * Att.soft (fun y => (∑ j, kp a0 a2 a3 b h y 1 j * kp a0 a2 a3 b h p 0 j) * ((es a1 b * es a1 b) * Ideal.ofBits .f32 0x3E21E89B#32)) y)
          + kp a0 a2 a3 b h p 3 e) 0 := by
  obtain ⟨b, _⟩ := b
  obtain rfl := hb
  unfold Block.ag
  rw [Att.att_apply (M := Block.masks) _ _ i l (by omega) (fun d => pg_pad a0 x0 x2 x3 n g h0 i _ _ rfl) d, fac_apply,
    rg_at a1 x1 n g h1 i p l hl]
  have hdiv : d.val / 40 = h.val := by omega
  refine congrArg (fun z => max z 0) (congr (congrArg HAdd.hAdd (Finset.sum_congr rfl fun y _ => ?_)) ?_)
  · refine congr (congrArg HMul.hMul ?_) ?_
    · exact pg_at a0 a2 a3 x0 x2 x3 n g h0 h2 h3 i y 2 h e _ (by show 160 + d.val = (2 * 2 + h.val) * 40 + e.val; omega) _ rfl
    · refine congrArg (fun s => Att.soft s y) (funext fun y => congrArg (· * _) (Finset.sum_congr rfl fun j _ => congr (congrArg HMul.hMul ?_) ?_))
      · exact pg_at a0 a2 a3 x0 x2 x3 n g h0 h2 h3 i y 1 h j _ (by show 80 + 40 * (d.val / 40) + j.val = (1 * 2 + h.val) * 40 + j.val; omega) _ rfl
      · exact pg_at a0 a2 a3 x0 x2 x3 n g h0 h2 h3 i p 0 h j _ (by show 40 * (d.val / 40) + j.val = (0 * 2 + h.val) * 40 + j.val; omega) _ hl
  · exact pg_at a0 a2 a3 x0 x2 x3 n g h0 h2 h3 i p 3 h e _ (by show 240 + d.val = (3 * 2 + h.val) * 40 + e.val; omega) _ hl

include h0 h1 h2 h3 in
/-- One output row at one lane. -/
theorem og_at (i : Fin 5) (p : Fin 23) (h : Fin 2) (e : Fin 40) (d : Fin 80) (hd : d.val = h.val * 40 + e.val) (l : Fin 128) (hl : l.val = 24 * i.val + p.val)
    (b : Fin 40960) (hb : b.val = (n.val * 5 + i.val) * 128 + g.val) :
    Block.og x0 x1 x2 x3 g (ix2 d l)
      = max ((∑ y, kp a0 a2 a3 b h y 2 e * Att.soft (fun y => (∑ j, kp a0 a2 a3 b h y 1 j * kp a0 a2 a3 b h p 0 j) * ((es a1 b * es a1 b) * Ideal.ofBits .f32 0x3E21E89B#32)) y)
          + kp a0 a2 a3 b h p 3 e) 0 * es a1 b := by
  unfold Block.og
  rw [emit_apply, ag_at a0 a1 a2 a3 x0 x1 x2 x3 n g h0 h1 h2 h3 i p h e d hd l hl b hb, rg_at a1 x1 n g h1 i p l hl]
  obtain ⟨b, _⟩ := b
  obtain rfl := hb
  rfl

end At

end Cert.KernelIdeal.Ker

end
-- ==== Proof.Arr.lean ====
/- The kernel's result array after the run. -/
module

public import proofs.«01_k».proof.Proof.Block
public import proofs.«01_k».proof.Proof.Host

@[expose] public section

set_option maxRecDepth 16384

noncomputable section

namespace Cert.KernelIdeal.Arr

open Idealize.ShloMosaic Idealize.ShloMosaic.TcCoe Idealize.ShloMosaic.Pointwise Idealize.SL.Sem
open Cert.KernelIdeal Cert.KernelIdeal.Gen

variable (m : (ℓ : Loc nD τ sig) → Buf (Elt Ideal) ℓ) (c : Dev nD)

theorem tN (t : Fin cfg0.N) : t.val < 64 := by have h : cfg0.N = 64 := N_0; have := t.isLt; omega

theorem coord (t : Fin cfg0.N) : ((grid0.coords t) 0).val = t.val := by
  have := tN t
  show t.val / 1 % 64 = t.val
  omega

theorem iblk0 (t : Fin cfg0.N) (j : S12288x128.Idx) : iblk m c 0 t j = V m c main_v15 (ix2 ⟨t.val * 12288 + (j 0).val, by have := tN t; have : (j 0).val < 12288 := (j 0).isLt; omega⟩ (j 1)) := by
  have := tN t
  show V m c main_v15 _ = V m c main_v15 _
  refine congrArg _ (funext (Fin.forall_fin_two.mpr ⟨Fin.ext ?_, Fin.ext ?_⟩))
  · show (BitVec.ofNat 32 ((grid0.coords t) 0).val).toNat * 12288 + 1 * (j 0).val = t.val * 12288 + (j 0).val
    rw [coord, BitVec.toNat_ofNat]
    omega
  · show 0 * 128 + 1 * (j 1).val = (j 1).val
    omega

theorem iblk1 (t : Fin cfg0.N) (j : S128x128.Idx) : iblk m c 1 t j = V m c main_v22 (ix2 ⟨t.val * 128 + (j 0).val, by have := tN t; have : (j 0).val < 128 := (j 0).isLt; omega⟩ (j 1)) := by
  have := tN t
  show V m c main_v22 _ = V m c main_v22 _
  refine congrArg _ (funext (Fin.forall_fin_two.mpr ⟨Fin.ext ?_, Fin.ext ?_⟩))
  · show (BitVec.ofNat 32 ((grid0.coords t) 0).val).toNat * 128 + 1 * (j 0).val = t.val * 128 + (j 0).val
    rw [coord, BitVec.toNat_ofNat]
    omega
  · show 0 * 128 + 1 * (j 1).val = (j 1).val
    omega

theorem iblk2 (t : Fin cfg0.N) : iblk m c 2 t = V m c main_v2 := by
  funext (j : S320x96.Idx)
  show V m c main_v2 _ = V m c main_v2 _
  refine congrArg _ (funext (Fin.forall_fin_two.mpr ⟨Fin.ext ?_, Fin.ext ?_⟩))
  · show 0 * 320 + 1 * (j 0).val = (j 0).val
    omega
  · show 0 * 96 + 1 * (j 1).val = (j 1).val
    omega

theorem iblk3 (t : Fin cfg0.N) : iblk m c 3 t = V m c main_v4 := by
  funext (j : S320x128.Idx)
  show V m c main_v4 _ = V m c main_v4 _
  refine congrArg _ (funext (Fin.forall_fin_two.mpr ⟨Fin.ext ?_, Fin.ext ?_⟩))
  · show 0 * 320 + 1 * (j 0).val = (j 0).val
    omega
  · show 0 * 128 + 1 * (j 1).val = (j 1).val
    omega

/-- The grid point that writes a row. -/
def pt (y : S655360x128.Idx) : Fin cfg0.N := ⟨(y 0).val / 10240, by have h : cfg0.N = 64 := N_0; have : (y 0).val < 655360 := (y 0).isLt; omega⟩

/-- The result array: each point's block of rows. -/
def out : Vec Ideal S655360x128 .bf16 := fun y =>
  Block.blk (iblk m c 0 (pt y)) (iblk m c 1 (pt y)) (iblk m c 2 (pt y)) (iblk m c 3 (pt y)) (ix2 ⟨(y 0).val % 10240, by omega⟩ (y 1))

theorem out_at (t : Fin cfg0.N) (j : S10240x128.Idx) (y : S655360x128.Idx) (h0 : (y 0).val = t.val * 10240 + (j 0).val) (h1 : (y 1).val = (j 1).val) :
    out m c y = Block.blk (iblk m c 0 t) (iblk m c 1 t) (iblk m c 2 t) (iblk m c 3 t) j := by
  have hj : (j 0).val < 10240 := (j 0).isLt
  have hp : pt y = t := Fin.ext (by show (y 0).val / 10240 = t.val; omega)
  unfold out
  rw [hp]
  refine congrArg _ (funext (Fin.forall_fin_two.mpr ⟨Fin.ext ?_, Fin.ext ?_⟩))
  · show (y 0).val % 10240 = (j 0).val
    omega
  · exact h1

theorem flushed_eq (t : Fin cfg0.N) (hf : (cfg0.win 4).flush t = true) :
    (Own.dats m 0 c).flushed 4 t = ((cfg0.win 4).blk t).view.read (Elt Ideal) (out m c) := by
  have := tN t
  show (cfg0.win 4).cut (grid0.coords t) ((Own.dats m 0 c).after 4 t) = _
  funext (j : S10240x128.Idx)
  have e : ((cfg0.win 4).cut (grid0.coords t) ((Own.dats m 0 c).after 4 t)) j = Own.outsAt0 m c t j := by
    rw [Own.after0_4]; rfl
  rw [e]
  unfold Own.outsAt0
  rw [Block.out_eq]
  refine (out_at m c t j _ ?_ ?_).symm
  · show (BitVec.ofNat 32 ((grid0.coords t) 0).val).toNat * 10240 + 1 * (j 0).val = t.val * 10240 + (j 0).val
    rw [coord, BitVec.toNat_ofNat]
    omega
  · show 0 * 128 + 1 * (j 1).val = (j 1).val
    omega

theorem final : (Own.dats m 0 c).arrAt 4 cfg0.N = out m c :=
  (Own.dats m 0 c).arrAt_eq_of_cover 4 (out m c) (flushed_eq m c) fun (i : S655360x128.Idx) =>
    ⟨pt i, flush0_4 _, by
      have := tN (pt i)
      show i ∈ ((View.whole main_v23).slice (win0_4.rect (pt i))).set
      rw [View.set_slice_whole, Rect.mem_set_unit]
      intro a
      have h0 : (i 0 : Nat) < 655360 := (i 0).isLt
      have h1 : (i 1 : Nat) < 128 := (i 1).isLt
      match a with
      | ⟨0, _⟩ =>
        show (BitVec.ofNat 32 ((grid0.coords (pt i)) 0).val).toNat * 10240 ≤ (i 0 : Nat) ∧ (i 0 : Nat) < (BitVec.ofNat 32 ((grid0.coords (pt i)) 0).val).toNat * 10240 + 10240
        rw [coord, BitVec.toNat_ofNat]
        have e : (pt i).val = (i 0 : Nat) / 10240 := rfl
        omega
      | ⟨1, _⟩ =>
        show 0 * 128 ≤ (i 1 : Nat) ∧ (i 1 : Nat) < 0 * 128 + 128
        omega⟩

end Cert.KernelIdeal.Arr

end
-- ==== Proof.HostRun.lean ====
/- What the host's arrays hold when the kernel is entered, and what the host makes of the kernel's array. -/
module

public import proofs.«01_k».proof.Proof.Run
public import proofs.«01_k».proof.Proof.Host
public import Idealize.ShloMosaic.Lib.StableHlo.RunRead

@[expose] public section

set_option maxRecDepth 16384

noncomputable section

namespace Cert.KernelIdeal.Host

open Idealize.ShloMosaic Idealize.ShloMosaic.TcCoe Idealize.ShloMosaic.Pointwise Idealize.SL.Sem
open Cert.KernelIdeal Cert.KernelIdeal.Gen

variable {F : FTy → Type} [FloatOps F]

section Run

variable (m : (ℓ : Loc nD τ sig) → Buf (Elt F) ℓ) (c : Dev nD)

theorem V_codes : V m c main_v15 = codes (m ((c : Thread nD τ).loc main_arg0)) := by
  show StableHlo.after (List.flatten [hostOps0, hostOps0_1, hostOps0_2, hostOps0_3, hostOps0_4, hostOps0_5, hostOps0_6, hostOps0_7, hostOps0_8]) _ (Proc.devRef .tc main_v15) = _
  simp only [List.flatten_cons, List.flatten_nil, List.append_nil]
  after_reads_simp
  rfl
theorem V_scales : V m c main_v22 = scales (m ((c : Thread nD τ).loc main_arg1)) := by
  show StableHlo.after (List.flatten [hostOps0, hostOps0_1, hostOps0_2, hostOps0_3, hostOps0_4, hostOps0_5, hostOps0_6, hostOps0_7, hostOps0_8]) _ (Proc.devRef .tc main_v22) = _
  simp only [List.flatten_cons, List.flatten_nil, List.append_nil]
  after_reads_simp
  rfl
theorem V_wts : V m c main_v2 = wts (m ((c : Thread nD τ).loc main_arg2)) := by
  show StableHlo.after (List.flatten [hostOps0, hostOps0_1, hostOps0_2, hostOps0_3, hostOps0_4, hostOps0_5, hostOps0_6, hostOps0_7, hostOps0_8]) _ (Proc.devRef .tc main_v2) = _
  simp only [List.flatten_cons, List.flatten_nil, List.append_nil]
  after_reads_simp
  rfl
theorem V_wsc : V m c main_v4 = wsc (m ((c : Thread nD τ).loc main_arg3)) := by
  show StableHlo.after (List.flatten [hostOps0, hostOps0_1, hostOps0_2, hostOps0_3, hostOps0_4, hostOps0_5, hostOps0_6, hostOps0_7, hostOps0_8]) _ (Proc.devRef .tc main_v4) = _
  simp only [List.flatten_cons, List.flatten_nil, List.append_nil]
  after_reads_simp
  rfl

/-- After the kernel the host reads its array. -/
theorem tail_res (dats : (p : Fin _) → (c : Dev nD) → Pipeline.Dat τ (Elt F) Unit ℕ (UR sig nD τ) ℕ (cfgs p) c) :
    Pipeline.afterTail₀ cfgs dats 0 (V0 m) [hostOps1] c main_v29 = res ((dats 0 c).arrAt 4 cfg0.N) := by
  unfold Pipeline.afterTail₀
  simp only [List.flatten_cons, List.flatten_nil, List.append_nil]
  after_reads_simp
  exact congrArg res (Pipeline.withArrays_arr spec0 (by decide) c (V0 m c) _ 4)

end Run

end Cert.KernelIdeal.Host

end
-- ==== Proof.RefVal.lean ====
/- The reference's result read at an index. -/
module

public import proofs.«01_k».proof.Proof.Gen.ReferenceIdeal.Read
public import proofs.«01_k».proof.Proof.Att
public import Idealize.ShloMosaic.Lib.KernelVsHost

@[expose] public section

set_option maxRecDepth 16384

noncomputable section

namespace Cert.ReferenceIdeal.Ref

open Idealize.ShloMosaic Idealize.ShloMosaic.TcCoe Idealize.ShloMosaic.Pointwise Idealize.SL.Sem
open Cert.ReferenceIdeal Cert.ReferenceIdeal.Gen Cert.ReferenceIdeal.Read

variable (x0 : Vec Ideal S40960x23x80 .bf16) (x1 : Vec Ideal S40960 .i32) (x2 : Vec Ideal S80x4x2x40 .bf16) (x3 : Vec Ideal S4x2x40 .f32)

/-- The scale of sample `b`. -/
def sc (b : Fin 40960) : EReal := Ideal.exp ((Ideal.ofBits .f32 0x3F317218#32) * ((((x1 (ix1 b)) : BitVec 32).toInt : ℝ) : EReal))

/-- The projection of token `x` of sample `b`: part `q`, head `h`, feature `e`. -/
def pr (b : Fin 40960) (x : Fin 23) (q : Fin 4) (h : Fin 2) (e : Fin 40) : EReal :=
  (∑ k : Fin 80, x0 (ix3 b x k) * x2 (ix4 k q h e)) * sc x1 b * x3 (ix3 q h e)

theorem v8_eq (b : Fin 40960) (x : Fin 23) (q : Fin 4) (h : Fin 2) (e : Fin 40) :
    val_main_v8 (F := Ideal) x1 (ix5 b x q h e) = sc x1 b := by
  rw [val_main_v8_apply, val_main_v7_apply, val_main_v3_apply, val_main_v2_apply, val_main_v1_apply, val_main_cst_apply, val_main_v0_apply]
  rw [show idx_main_v7 (idx_main_v8 (ix5 b x q h e)) = ix1 b from (funext fun a => by match a with | ⟨0, _⟩ => rfl)]
  rfl

theorem v11_eq (b : Fin 40960) (x : Fin 23) (q : Fin 4) (h : Fin 2) (e : Fin 40) :
    val_main_v11 (F := Ideal) x3 (ix5 b x q h e) = x3 (ix3 q h e) := by
  rw [val_main_v11_apply, val_main_v10_apply]
  exact congrArg x3 (funext fun a => by match a with | ⟨0, _⟩ => rfl | ⟨1, _⟩ => rfl | ⟨2, _⟩ => rfl)

theorem v6_eq (b : Fin 40960) (x : Fin 23) (q : Fin 4) (h : Fin 2) (e : Fin 40) :
    val_main_v6 (F := Ideal) x0 x2 (ix5 b x q h e) = ∑ k : Fin 80, x0 (ix3 b x k) * x2 (ix4 k q h e) := by
  rw [val_main_v6_apply]
  refine Finset.sum_congr rfl fun k _ => ?_
  rw [val_main_v4_apply, val_main_v5_apply]
  rw [show lidx_main_v6 (ix5 b x q h e) k = ix3 b x k from (funext fun a => by match a with | ⟨0, _⟩ => rfl | ⟨1, _⟩ => rfl | ⟨2, _⟩ => rfl), show ridx_main_v6 (ix5 b x q h e) k = ix4 k q h e from (funext fun a => by match a with | ⟨0, _⟩ => rfl | ⟨1, _⟩ => rfl | ⟨2, _⟩ => rfl | ⟨3, _⟩ => rfl)]
  rfl

theorem v12_eq (b : Fin 40960) (x : Fin 23) (q : Fin 4) (h : Fin 2) (e : Fin 40) :
    val_main_v12 (F := Ideal) x0 x1 x2 x3 (ix5 b x q h e) = pr x0 x1 x2 x3 b x q h e := by
  rw [val_main_v12_apply, val_main_v9_apply, v6_eq, v8_eq, v11_eq]
  rfl

theorem v14_eq (b : Fin 40960) (x : Fin 23) (h : Fin 2) (e : Fin 40) :
    val_main_v14 (F := Ideal) x0 x1 x2 x3 (ix4 b x h e) = pr x0 x1 x2 x3 b x 0 h e := by
  rw [val_main_v14_apply, val_main_v13_apply, ← v12_eq]
  refine congrArg _ (funext fun a => Fin.ext ?_)
  have hb := b.isLt
  have hx := x.isLt
  have hh := h.isLt
  have he := e.isLt
  match a with
  | ⟨0, _⟩ => show (((b.val * 23 + x.val) * 2 + h.val) * 40 + e.val) / 1840 = b.val; omega
  | ⟨1, _⟩ => show (((b.val * 23 + x.val) * 2 + h.val) * 40 + e.val) / 80 % 23 = x.val; omega
  | ⟨2, _⟩ => rfl
  | ⟨3, _⟩ => show (((b.val * 23 + x.val) * 2 + h.val) * 40 + e.val) / 40 % 2 = h.val; omega
  | ⟨4, _⟩ => show (((b.val * 23 + x.val) * 2 + h.val) * 40 + e.val) % 40 = e.val; omega

theorem v16_eq (b : Fin 40960) (x : Fin 23) (h : Fin 2) (e : Fin 40) :
    val_main_v16 (F := Ideal) x0 x1 x2 x3 (ix4 b x h e) = pr x0 x1 x2 x3 b x 1 h e := by
  rw [val_main_v16_apply, val_main_v15_apply, ← v12_eq]
  refine congrArg _ (funext fun a => Fin.ext ?_)
  have hb := b.isLt
  have hx := x.isLt
  have hh := h.isLt
  have he := e.isLt
  match a with
  | ⟨0, _⟩ => show (((b.val * 23 + x.val) * 2 + h.val) * 40 + e.val) / 1840 = b.val; omega
  | ⟨1, _⟩ => show (((b.val * 23 + x.val) * 2 + h.val) * 40 + e.val) / 80 % 23 = x.val; omega
  | ⟨2, _⟩ => rfl
  | ⟨3, _⟩ => show (((b.val * 23 + x.val) * 2 + h.val) * 40 + e.val) / 40 % 2 = h.val; omega
  | ⟨4, _⟩ => show (((b.val * 23 + x.val) * 2 + h.val) * 40 + e.val) % 40 = e.val; omega

theorem v18_eq (b : Fin 40960) (x : Fin 23) (h : Fin 2) (e : Fin 40) :
    val_main_v18 (F := Ideal) x0 x1 x2 x3 (ix4 b x h e) = pr x0 x1 x2 x3 b x 2 h e := by
  rw [val_main_v18_apply, val_main_v17_apply, ← v12_eq]
  refine congrArg _ (funext fun a => Fin.ext ?_)
  have hb := b.isLt
  have hx := x.isLt
  have hh := h.isLt
  have he := e.isLt
  match a with
  | ⟨0, _⟩ => show (((b.val * 23 + x.val) * 2 + h.val) * 40 + e.val) / 1840 = b.val; omega
  | ⟨1, _⟩ => show (((b.val * 23 + x.val) * 2 + h.val) * 40 + e.val) / 80 % 23 = x.val; omega
  | ⟨2, _⟩ => rfl
  | ⟨3, _⟩ => show (((b.val * 23 + x.val) * 2 + h.val) * 40 + e.val) / 40 % 2 = h.val; omega
  | ⟨4, _⟩ => show (((b.val * 23 + x.val) * 2 + h.val) * 40 + e.val) % 40 = e.val; omega

theorem v20_eq (b : Fin 40960) (x : Fin 23) (h : Fin 2) (e : Fin 40) :
    val_main_v20 (F := Ideal) x0 x1 x2 x3 (ix4 b x h e) = pr x0 x1 x2 x3 b x 3 h e := by
  rw [val_main_v20_apply, val_main_v19_apply, ← v12_eq]
  refine congrArg _ (funext fun a => Fin.ext ?_)
  have hb := b.isLt
  have hx := x.isLt
  have hh := h.isLt
  have he := e.isLt
  match a with
  | ⟨0, _⟩ => show (((b.val * 23 + x.val) * 2 + h.val) * 40 + e.val) / 1840 = b.val; omega
  | ⟨1, _⟩ => show (((b.val * 23 + x.val) * 2 + h.val) * 40 + e.val) / 80 % 23 = x.val; omega
  | ⟨2, _⟩ => rfl
  | ⟨3, _⟩ => show (((b.val * 23 + x.val) * 2 + h.val) * 40 + e.val) / 40 % 2 = h.val; omega
  | ⟨4, _⟩ => show (((b.val * 23 + x.val) * 2 + h.val) * 40 + e.val) % 40 = e.val; omega

/-- The score of key `y` for query `x`. -/
def score (b : Fin 40960) (h : Fin 2) (x y : Fin 23) : EReal :=
  (∑ e : Fin 40, pr x0 x1 x2 x3 b x 0 h e * pr x0 x1 x2 x3 b y 1 h e) * Ideal.ofBits .f32 0x3E21E89B#32

theorem v25_eq (b : Fin 40960) (h : Fin 2) (x y : Fin 23) :
    val_main_v25 (F := Ideal) x0 x1 x2 x3 (ix4 b h x y) = score x0 x1 x2 x3 b h x y := by
  rw [val_main_v25_apply, val_main_v23_apply, val_main_v24_apply, val_main_cst_0_apply]
  unfold score
  refine congrArg (· * _) (Finset.sum_congr rfl fun e _ => ?_)
  rw [val_main_v21_apply, val_main_v22_apply]
  rw [show lidx_main_v23 (ix4 b h x y) e = ix4 b x h e from (funext fun a => by match a with | ⟨0, _⟩ => rfl | ⟨1, _⟩ => rfl | ⟨2, _⟩ => rfl | ⟨3, _⟩ => rfl), show ridx_main_v23 (ix4 b h x y) e = ix4 b y h e from (funext fun a => by match a with | ⟨0, _⟩ => rfl | ⟨1, _⟩ => rfl | ⟨2, _⟩ => rfl | ⟨3, _⟩ => rfl), v14_eq, v16_eq]
  rfl

theorem v28_eq (b : Fin 40960) (h : Fin 2) (x : Fin 23) :
    val_main_v28 (F := Ideal) x0 x1 x2 x3 (ix3 b h x) = Finset.univ.sup (score x0 x1 x2 x3 b h x) := by
  have e1 : val_main_v26 (F := Ideal) x0 x1 x2 x3 (ix3 b h x) = Finset.univ.sup (score x0 x1 x2 x3 b h x) := by
    unfold val_main_v26 val_main_cst_1
    rw [hostReduce_maximumf_eq_multiReduction _ _ _ _ (by decide) (by decide) (by decide)]
    rw [Ideal.multiReduction_maximumf_single]
    show Finset.univ.fold max (Ideal.ofBits .f32 0xFF800000#32) _ = _
    rw [Cert.KernelIdeal.Att.ninf]
    show Finset.univ.sup (fun y : Fin 23 => _) = _
    refine Finset.sup_congr rfl fun y _ => ?_
    rw [← v25_eq]
    show val_main_v25 (F := Ideal) x0 x1 x2 x3 _ = val_main_v25 (F := Ideal) x0 x1 x2 x3 _
    refine congrArg _ (funext fun (a : Fin 4) => ?_)
    match a with
    | ⟨0, _⟩ => rfl
    | ⟨1, _⟩ => rfl
    | ⟨2, _⟩ => rfl
    | ⟨3, _⟩ => rfl
  rw [val_main_v28_apply, e1, val_main_v27_apply, val_main_cst_2_apply]
  show max (Ideal.ofBits .f32 0xFF800000#32) _ = _
  rw [Cert.KernelIdeal.Att.ninf]
  exact max_bot_left _

theorem v32_eq (b : Fin 40960) (h : Fin 2) (x y : Fin 23) :
    val_main_v32 (F := Ideal) x0 x1 x2 x3 (ix4 b h x y) = Ideal.exp (score x0 x1 x2 x3 b h x y - Finset.univ.sup (score x0 x1 x2 x3 b h x)) := by
  rw [val_main_v32_apply, val_main_v31_apply, val_main_v30_apply, val_main_v29_apply, v25_eq]
  rw [show idx_main_v29 (idx_main_v30 (ix4 b h x y)) = ix3 b h x from (funext fun a => by match a with | ⟨0, _⟩ => rfl | ⟨1, _⟩ => rfl | ⟨2, _⟩ => rfl), v28_eq]
  rfl

theorem z0 : Ideal.ofBits .f32 0x00000000#32 = 0 := by simp [Ideal.ofBits, Ideal.ieee]

theorem v36_eq (b : Fin 40960) (h : Fin 2) (x y : Fin 23) :
    val_main_v36 (F := Ideal) x0 x1 x2 x3 (ix4 b h x y) = Cert.KernelIdeal.Att.soft (score x0 x1 x2 x3 b h x) y := by
  rw [val_main_v36_apply, val_main_v35_apply, val_main_v34_apply, val_main_v33_apply, v32_eq, val_main_cst_3_apply]
  rw [show idx_main_v34 (idx_main_v35 (ix4 b h x y)) = ix3 b h x from (funext fun a => by match a with | ⟨0, _⟩ => rfl | ⟨1, _⟩ => rfl | ⟨2, _⟩ => rfl)]
  unfold Cert.KernelIdeal.Att.soft
  refine congrArg (Ideal.div _) ?_
  show Ideal.ofBits .f32 0x00000000#32 + _ = _
  rw [z0, zero_add]
  refine Finset.sum_congr rfl fun k _ => ?_
  rw [show idx_main_v33 (ix3 b h x) k = ix4 b h x k from (funext fun a => by match a with | ⟨0, _⟩ => rfl | ⟨1, _⟩ => rfl | ⟨2, _⟩ => rfl | ⟨3, _⟩ => rfl), v32_eq]

/-- The result at sample `b`, token `x`, head `h`, feature `e`. -/
def res (b : Fin 40960) (x : Fin 23) (h : Fin 2) (e : Fin 40) : EReal :=
  max ((∑ y : Fin 23, pr x0 x1 x2 x3 b y 2 h e * Cert.KernelIdeal.Att.soft (score x0 x1 x2 x3 b h x) y) + pr x0 x1 x2 x3 b x 3 h e) 0

theorem v42_eq (b : Fin 40960) (x : Fin 23) (h : Fin 2) (e : Fin 40) :
    val_main_v42 (F := Ideal) x0 x1 x2 x3 (ix4 b x h e) = res x0 x1 x2 x3 b x h e := by
  rw [val_main_v42_apply, val_main_v41_apply, val_main_v40_apply, val_main_call0_v0_apply, val_main_call0_cst_apply, v20_eq]
  rw [show idx_main_v40 (ix4 b x h e) = ix4 b h e x from (funext fun a => by match a with | ⟨0, _⟩ => rfl | ⟨1, _⟩ => rfl | ⟨2, _⟩ => rfl | ⟨3, _⟩ => rfl), val_main_v39_apply]
  unfold res
  refine congr (congrArg max (congrArg (· + _) (Finset.sum_congr rfl fun y _ => ?_))) z0
  rw [val_main_v38_apply, val_main_v37_apply]
  rw [show lidx_main_v39 (ix4 b h e x) y = ix4 b y h e from (funext fun a => by match a with | ⟨0, _⟩ => rfl | ⟨1, _⟩ => rfl | ⟨2, _⟩ => rfl | ⟨3, _⟩ => rfl), show ridx_main_v39 (ix4 b h e x) y = ix4 b h x y from (funext fun a => by match a with | ⟨0, _⟩ => rfl | ⟨1, _⟩ => rfl | ⟨2, _⟩ => rfl | ⟨3, _⟩ => rfl), v18_eq, v36_eq]
  rfl

theorem v43_eq (b : Fin 40960) (x : Fin 23) (h : Fin 2) (e : Fin 40) :
    val_main_v43 (F := Ideal) x0 x1 x2 x3 (ix3 b x (⟨h.val * 40 + e.val, by omega⟩ : Fin 80)) = res x0 x1 x2 x3 b x h e := by
  rw [val_main_v43_apply, ← v42_eq]
  refine congrArg _ (funext fun a => Fin.ext ?_)
  have hb := b.isLt
  have hx := x.isLt
  have hh := h.isLt
  have he := e.isLt
  match a with
  | ⟨0, _⟩ => show ((b.val * 23 + x.val) * 80 + (h.val * 40 + e.val)) / 1840 = b.val; omega
  | ⟨1, _⟩ => show ((b.val * 23 + x.val) * 80 + (h.val * 40 + e.val)) / 80 % 23 = x.val; omega
  | ⟨2, _⟩ => show ((b.val * 23 + x.val) * 80 + (h.val * 40 + e.val)) / 40 % 2 = h.val; omega
  | ⟨3, _⟩ => show ((b.val * 23 + x.val) * 80 + (h.val * 40 + e.val)) % 40 = e.val; omega

theorem v44_eq (b : Fin 40960) (x : Fin 23) (h : Fin 2) (e : Fin 40) :
    val_main_v44 (F := Ideal) x0 x1 x2 x3 (ix3 b x (⟨h.val * 40 + e.val, by omega⟩ : Fin 80)) = res x0 x1 x2 x3 b x h e :=
  (val_main_v44_apply x0 x1 x2 x3 _).trans (v43_eq x0 x1 x2 x3 b x h e)

end Cert.ReferenceIdeal.Ref

end
-- ==== Proof.Value.lean ====
/- The kernel's result is the reference's, at every index; and the claim of the two runs. -/
module

public import proofs.«01_k».proof.Defs
public import proofs.«01_k».proof.Proof.Alg
public import proofs.«01_k».proof.Proof.Ker
public import proofs.«01_k».proof.Proof.Arr
public import proofs.«01_k».proof.Proof.HostRun
public import proofs.«01_k».proof.Proof.RefVal
public import proofs.«01_k».proof.Proof.Gen.ReferenceIdeal.Run

@[expose] public section

set_option backward.proofsInPublic true
set_option maxRecDepth 16384

noncomputable section

namespace Cert.KernelIdeal.Value

open Idealize.ShloMosaic Idealize.ShloMosaic.TcCoe Idealize.ShloMosaic.Pointwise Idealize.SL.Sem
open Cert.KernelIdeal Cert.KernelIdeal.Gen

section Formula

variable (a0 : Vec Ideal S40960x23x80 .bf16) (a1 : Vec Ideal S40960 .i32) (a2 : Vec Ideal S80x4x2x40 .bf16) (a3 : Vec Ideal S4x2x40 .f32)

theorem es_pos (b : Fin 40960) : Alg.PosReal (Ker.es a1 b) := by
  unfold Ker.es
  rw [Host.pow_apply]
  exact Alg.exp_pos _ Alg.ln2_real _

theorem pr_eq (b : Fin 40960) (x : Fin 23) (q : Fin 4) (h : Fin 2) (e : Fin 40) :
    Cert.ReferenceIdeal.Ref.pr a0 a1 a2 a3 b x q h e = Ker.kp a0 a2 a3 b h x q e * Ker.es a1 b := by
  have e1 : Cert.ReferenceIdeal.Ref.sc a1 b = Ker.es a1 b := rfl
  unfold Cert.ReferenceIdeal.Ref.pr Ker.kp
  rw [e1, mul_right_comm]
  refine congrArg (fun z => z * _ * _) (Finset.sum_congr rfl fun k _ => mul_comm _ _)

/-- The reference's formula is the kernel's. -/
theorem formula (b : Fin 40960) (p : Fin 23) (h : Fin 2) (e : Fin 40) :
    max ((∑ y, Ker.kp a0 a2 a3 b h y 2 e * Att.soft (fun y => (∑ j, Ker.kp a0 a2 a3 b h y 1 j * Ker.kp a0 a2 a3 b h p 0 j) * ((Ker.es a1 b * Ker.es a1 b) * Ideal.ofBits .f32 0x3E21E89B#32)) y)
          + Ker.kp a0 a2 a3 b h p 3 e) 0 * Ker.es a1 b = Cert.ReferenceIdeal.Ref.res a0 a1 a2 a3 b p h e := by
  rw [Alg.close (Ker.kp a0 a2 a3 b h) (es_pos a1 b)]
  unfold Cert.ReferenceIdeal.Ref.res Cert.ReferenceIdeal.Ref.score
  simp only [pr_eq]

end Formula

variable (m : (ℓ : Loc nD τ sig) → Buf (Elt Ideal) ℓ) (c : Dev nD)

abbrev A0 : Vec Ideal S40960x23x80 .bf16 := m ((c : Thread nD τ).loc main_arg0)
abbrev A1 : Vec Ideal S40960 .i32 := m ((c : Thread nD τ).loc main_arg1)
abbrev A2 : Vec Ideal S80x4x2x40 .bf16 := m ((c : Thread nD τ).loc main_arg2)
abbrev A3 : Vec Ideal S4x2x40 .f32 := m ((c : Thread nD τ).loc main_arg3)

theorem blk_at (x0 : Vec Ideal S12288x128 .f32) (x1 : Vec Ideal S128x128 .f32) (x2 : Vec Ideal S320x96 .bf16) (x3 : Vec Ideal S320x128 .f32) (g : Fin 128) (d : Fin 80) (l : Fin 128) :
    Block.blk x0 x1 x2 x3 (ix2 ⟨g.val * 80 + d.val, by omega⟩ l) = Block.og x0 x1 x2 x3 g (ix2 d l) := by
  have e1 : (⟨(g.val * 80 + d.val) / 80, by omega⟩ : Fin 128) = g := Fin.ext (by show (g.val * 80 + d.val) / 80 = g.val; omega)
  have e2 : (⟨(g.val * 80 + d.val) % 80, by omega⟩ : Fin 80) = d := Fin.ext (by show (g.val * 80 + d.val) % 80 = d.val; omega)
  show Block.og x0 x1 x2 x3 ⟨(g.val * 80 + d.val) / 80, _⟩ (ix2 (⟨(g.val * 80 + d.val) % 80, _⟩ : Fin 80) l) = _
  rw [e1, e2]

theorem in0 (n : Fin 64) (t : Fin cfg0.N) (ht : t.val = n.val) (g : Fin 128) (k : Fin 96) (l : Fin 128) :
    iblk m c 0 t (ix2 ⟨96 * g.val + k.val, by omega⟩ l) = Host.codes (A0 m c) (ix2 ⟨(n.val * 128 + g.val) * 96 + k.val, by omega⟩ l) := by
  rw [Arr.iblk0, Host.V_codes]
  refine congrArg _ (funext (Fin.forall_fin_two.mpr ⟨Fin.ext ?_, rfl⟩))
  show t.val * 12288 + (96 * g.val + k.val) = (n.val * 128 + g.val) * 96 + k.val
  omega

theorem in1 (n : Fin 64) (t : Fin cfg0.N) (ht : t.val = n.val) (g : Fin 128) (l : Fin 128) :
    iblk m c 1 t (ix2 g l) = Host.scales (A1 m c) (ix2 ⟨n.val * 128 + g.val, by omega⟩ l) := by
  rw [Arr.iblk1, Host.V_scales]
  refine congrArg _ (funext (Fin.forall_fin_two.mpr ⟨Fin.ext ?_, rfl⟩))
  show t.val * 128 + g.val = n.val * 128 + g.val
  omega

theorem at_index (n : Fin 64) (g : Fin 128) (i : Fin 5) (p : Fin 23) (h : Fin 2) (e : Fin 40) :
    Host.res (Arr.out m c) (ix3 (⟨(n.val * 5 + i.val) * 128 + g.val, by omega⟩ : Fin 40960) p (⟨h.val * 40 + e.val, by omega⟩ : Fin 80))
      = Cert.ReferenceIdeal.Read.val_main_v44 (F := Ideal) (A0 m c) (A1 m c) (A2 m c) (A3 m c) (ix3 (⟨(n.val * 5 + i.val) * 128 + g.val, by omega⟩ : Fin 40960) p (⟨h.val * 40 + e.val, by omega⟩ : Fin 80)) := by
  let t : Fin cfg0.N := ⟨n.val, by have h : cfg0.N = 64 := N_0; omega⟩
  rw [Host.res_apply, Cert.ReferenceIdeal.Ref.v44_eq]
  rw [Arr.out_at m c t (ix2 (⟨g.val * 80 + (h.val * 40 + e.val), by omega⟩ : Fin 10240) (⟨24 * i.val + p.val, by omega⟩ : Fin 128)) _
    (by show (n.val * 128 + g.val) * 80 + (h.val * 40 + e.val) = n.val * 10240 + (g.val * 80 + (h.val * 40 + e.val)); omega) rfl]
  refine (blk_at (iblk m c 0 t) (iblk m c 1 t) (iblk m c 2 t) (iblk m c 3 t) g (⟨h.val * 40 + e.val, by omega⟩ : Fin 80) _).trans ?_
  refine (Ker.og_at (A0 m c) (A1 m c) (A2 m c) (A3 m c) (iblk m c 0 t) (iblk m c 1 t) (iblk m c 2 t) (iblk m c 3 t) n g (in0 m c n t rfl g) (in1 m c n t rfl g)
    ((Arr.iblk2 m c t).trans (Host.V_wts m c)) ((Arr.iblk3 m c t).trans (Host.V_wsc m c)) i p h e _ rfl _ rfl ⟨(n.val * 5 + i.val) * 128 + g.val, by omega⟩ rfl).trans ?_
  exact formula (A0 m c) (A1 m c) (A2 m c) (A3 m c) _ p h e

/-- An index of the result, by step, group, sample of the group, token, head and feature. -/
theorem idx_eq (y : S40960x23x80.Idx) : y = ix3 (⟨((⟨(y 0).val / 640, by have hb : (y 0).val < 40960 := (y 0).isLt; omega⟩ : Fin 64).val * 5 + (⟨(y 0).val / 128 % 5, by omega⟩ : Fin 5).val) * 128 + (⟨(y 0).val % 128, by omega⟩ : Fin 128).val, by have hb : (y 0).val < 40960 := (y 0).isLt; show ((y 0).val / 640 * 5 + (y 0).val / 128 % 5) * 128 + (y 0).val % 128 < 40960; omega⟩ : Fin 40960) (y 1)
      (⟨(⟨(y 2).val / 40, by have hd : (y 2).val < 80 := (y 2).isLt; omega⟩ : Fin 2).val * 40 + (⟨(y 2).val % 40, by omega⟩ : Fin 40).val, by have hd : (y 2).val < 80 := (y 2).isLt; show (y 2).val / 40 * 40 + (y 2).val % 40 < 80; omega⟩ : Fin 80) := by
  have hb : (y 0).val < 40960 := (y 0).isLt
  have hd : (y 2).val < 80 := (y 2).isLt
  funext (a : Fin 3)
  match a with
  | ⟨0, _⟩ => exact Fin.ext (by show (y 0).val = ((y 0).val / 640 * 5 + (y 0).val / 128 % 5) * 128 + (y 0).val % 128; omega)
  | ⟨1, _⟩ => rfl
  | ⟨2, _⟩ => exact Fin.ext (by show (y 2).val = (y 2).val / 40 * 40 + (y 2).val % 40; omega)

/-- The kernel's result is the reference's. -/
theorem value : Host.res (Arr.out m c) = Cert.ReferenceIdeal.Read.val_main_v44 (F := Ideal) (A0 m c) (A1 m c) (A2 m c) (A3 m c) := by
  funext (y : S40960x23x80.Idx)
  rw [idx_eq y]
  exact at_index m c _ _ _ _ _ _

variable (ρ : Dev nD → PrngReg)

/-- The kernel's run ends with the formula in its result and the arguments as they were. -/
theorem run : θ_run (defs (F := Ideal)) (onTc (τ := τ) (main (F := Ideal))) ⟨m, fun _ => 0, ρ⟩ (fun r => ∀ c : Dev nD,
      r.2.mem ((c.tc : Thread nD τ).loc main_v29) = Host.res (Arr.out m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ⟨?_, h.2 c⟩) (θ_run_and (Own.run_main m ρ) (Own.unchanged m ρ))
  exact ((h.1 c).2 main_v29 (Pipeline.mem_restRefs_of main_v29 (by decide) (by decide))).trans ((Host.tail_res m c (Own.dats m)).trans (congrArg Host.res (Arr.final m c)))

/-- The two runs end with the same result. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Host.res (Arr.out m c), run m g, ?_⟩
  refine (θ_run _ _ _).mono (fun r h c => ⟨(h c).1.trans ?_, (h c).2⟩) (Cert.ReferenceIdeal.Value.run (F := Ideal) m' g')
  refine (Cert.ReferenceIdeal.Read.val_main_v44_eq m' c).trans (Eq.trans ?_ (value m c).symm)
  rw [(hm c).1, (hm c).2.1, (hm c).2.2.1, (hm c).2.2.2]

end Cert.KernelIdeal.Value

end
-- ==== Proof.SRuns.lean ====
/- What the runs of the second layer's kernel share: its host lines and its blocks. -/
module

public import proofs.«01_k».proof.Proof.Gen.Second.Launch
public import proofs.«01_k».proof.Proof.Gen.Second.Skeleton
public import proofs.«01_k».proof.Proof.Gen.Second.Loops
public import proofs.«01_k».proof.Proof.Gen.Second.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Second.Own

open Cert.Second Cert.Second.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`, `hostOps0_5`, `hostOps0_6`, `hostOps0_7`, `hostOps0_8`, `hostOps0_9`, `hostOps0_10`). -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6, hostOps0_7, hostOps0_8, hostOps0_9, hostOps0_10] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v37, main_v38, main_v39, main_v40, main_v41, main_v42}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    read at the argument arrays — a staged input by the library's
    `RDat.FramePostR.arr_in`, an array no window stages (none is in `T0`) by the post's second clause, each then by `V_…` — is the frame
    claim's post (`Cert.frame_Second`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S12288x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S320x96 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S320x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10240x128 .fp8e4m3 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S320x128 .f32 := Memref.whole cc0_scratch0
abbrev scM0_1 : Memref sig .tc .vmem S8x128 .f32 := Memref.whole cc0_scratch1

/-- The frame kit's invariant with the scratch operands as memrefs owned at some contents (`Gen.scopedRest0_eq`,
   : what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Second.Own

end
-- ==== Proof.SRunA.lean ====
/- The second layer's kernel body run once, nothing said of what it leaves in the output block. -/
module

public import proofs.«01_k».proof.Proof.SRuns

@[expose] public section

-- membership in a rectangle of production extents (`View.cover_of_tiled`): the elaborator's structural look
-- recurses once per coordinate of the long axes
set_option maxRecDepth 16384

noncomputable section

namespace Cert.Second.Own

open Cert.Second Cert.Second.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S12288x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S320x96 .bf16) (harg4 : arg4.IsWhole) (arg5 : Memref sig .tc .vmem S320x128 .f32) (harg5 : arg5.IsWhole) (arg6 : Memref sig .tc .vmem S10240x128 .fp8e4m3) (harg6 : arg6.IsWhole) (arg7 : Memref sig .tc .vmem S320x128 .f32) (harg7 : arg7.IsWhole) (arg8 : Memref sig .tc .vmem S8x128 .f32) (harg8 : arg8.IsWhole)
    (x0 : Vec F S12288x128 .f32) (x1 : Vec F S128x128 .f32) (x2 : Vec F S128x128 .f32) (x3 : Vec F S320x96 .bf16) (x4 : Vec F S320x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_layers i arg1 harg1 arg2 harg2 arg3 harg3 arg4 harg4 arg5 harg5 arg6 harg6 arg7 harg7 arg8 harg8) K := by
    intro E K
    simp only [cc0_layers_eq_skeleton]; unfold cc0_layers_skel
    simp only [k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Second.Own

end
-- ==== Proof.SFrame.lean ====
/- The second layer's kernel runs to the end and leaves its arguments as they were. -/
module

public import proofs.«01_k».proof.Proof.SRunA
public import Idealize.ShloMosaic.Lib.Claim

@[expose] public section

-- membership in a rectangle of production extents (`View.cover_of_tiled`): the elaborator's structural look
-- recurses once per coordinate of the long axes
set_option maxRecDepth 16384

noncomputable section

namespace Cert.Second.Own

open Cert.Second Cert.Second.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5): nothing reads what the kernel leaves in them, so nothing
    of it is named. -/
def forgets0 : Fin 6 → Bool := fun w => w.val == 5

/-- The proof data of the one pipeline on core `c`: the arrays as the region finds them (`V`); after the body at
    point `t` each input's buffer at its block and the outputs, FORGOTTEN, at `Dat.unnamed`; the invariant the class's
   : the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 5) over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Second`'s statement (Defs.lean) at any `F` — Proof.lean cites it at `Bits`:
    `theorem Cert.Proof.claim : Cert.Claim := ⟨Cert.Second.Gen.facts, fun m ρ _ => Cert.Second.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Second.Own

end
-- ==== Proof.SRun.lean ====
/- The second layer's whole body run once, with what its stores leave in the output block named.
   The loop's pieces do not depend on what the written buffers held at entry, so they are taken over junk. -/
module

public import proofs.«01_k».proof.Proof.Gen.SecondIdeal.Frame.Runs
public import Idealize.ShloMosaic.Lib.Claim

@[expose] public section

-- membership in a rectangle of production extents (`View.cover_of_tiled`): the elaborator's structural look
-- recurses once per coordinate of the long axes
set_option maxRecDepth 16384

noncomputable section

namespace Cert.SecondIdeal.Own

open Cert.SecondIdeal Cert.SecondIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A trip's output pieces do not depend on what the written buffers held. -/
theorem trip_indep (𝒱 : Variants) (c : Dev nD) (bd : Option 𝒱.V) (i : grid0.Coords) (arg1 : Memref sig .tc .vmem S12288x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S320x96 .bf16) (harg4 : arg4.IsWhole) (arg5 : Memref sig .tc .vmem S320x128 .f32) (harg5 : arg5.IsWhole) (arg6 : Memref sig .tc .vmem S10240x128 .fp8e4m3) (harg6 : arg6.IsWhole) (arg7 : Memref sig .tc .vmem S320x128 .f32) (harg7 : arg7.IsWhole) (arg8 : Memref sig .tc .vmem S8x128 .f32) (harg8 : arg8.IsWhole) (v1 : IVec S8x128 32) (v3 v5 v7 v9 v11 v25 v39 v53 v67 v81 v95 v109 v123 : IVec S8x128 1) (v124 : IVec S8x128 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips)
    (f6 g6 : BufTy.Contents (Elt F) arg6.view.ty) (f7 g7 : BufTy.Contents (Elt F) arg7.view.ty) (f8 g8 : BufTy.Contents (Elt F) arg8.view.ty) :
    (tripL_k0_t1 (F := F) 𝒱 c bd i arg1 harg1 arg2 harg2 arg3 harg3 arg4 harg4 arg5 harg5 arg6 harg6 arg7 harg7 arg8 harg8 v1 v3 v5 v7 v9 v11 v25 v39 v53 v67 v81 v95 v109 v123 v124 X1 X2 X3 X4 X5 k f6 f7 f8).1 = (tripL_k0_t1 (F := F) 𝒱 c bd i arg1 harg1 arg2 harg2 arg3 harg3 arg4 harg4 arg5 harg5 arg6 harg6 arg7 harg7 arg8 harg8 v1 v3 v5 v7 v9 v11 v25 v39 v53 v67 v81 v95 v109 v123 v124 X1 X2 X3 X4 X5 k g6 g7 g8).1 := by
  unfold tripL_k0_t1
  unfold trip_k0_t1
  rfl

/-- Nor do the loop's. -/
theorem pb_indep (𝒱 : Variants) (c : Dev nD) (bd : Option 𝒱.V) (i : grid0.Coords) (arg1 : Memref sig .tc .vmem S12288x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S320x96 .bf16) (harg4 : arg4.IsWhole) (arg5 : Memref sig .tc .vmem S320x128 .f32) (harg5 : arg5.IsWhole) (arg6 : Memref sig .tc .vmem S10240x128 .fp8e4m3) (harg6 : arg6.IsWhole) (arg7 : Memref sig .tc .vmem S320x128 .f32) (harg7 : arg7.IsWhole) (arg8 : Memref sig .tc .vmem S8x128 .f32) (harg8 : arg8.IsWhole) (v1 : IVec S8x128 32) (v3 v5 v7 v9 v11 v25 v39 v53 v67 v81 v95 v109 v123 : IVec S8x128 1) (v124 : IVec S8x128 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty)
    (f6 g6 : BufTy.Contents (Elt F) arg6.view.ty) (f7 g7 : BufTy.Contents (Elt F) arg7.view.ty) (f8 g8 : BufTy.Contents (Elt F) arg8.view.ty) :
    ∀ k : Nat, k ≤ k0_t1_loop.trips → (pb_k0_t1 (F := F) 𝒱 c bd i arg1 harg1 arg2 harg2 arg3 harg3 arg4 harg4 arg5 harg5 arg6 harg6 arg7 harg7 arg8 harg8 v1 v3 v5 v7 v9 v11 v25 v39 v53 v67 v81 v95 v109 v123 v124 X1 X2 X3 X4 X5 f6 f7 f8 k).1 = (pb_k0_t1 (F := F) 𝒱 c bd i arg1 harg1 arg2 harg2 arg3 harg3 arg4 harg4 arg5 harg5 arg6 harg6 arg7 harg7 arg8 harg8 v1 v3 v5 v7 v9 v11 v25 v39 v53 v67 v81 v95 v109 v123 v124 X1 X2 X3 X4 X5 g6 g7 g8 k).1
  | 0, _ => rfl
  | k + 1, h => by
    rw [pb_k0_t1_succ 𝒱 c bd i arg1 harg1 arg2 harg2 arg3 harg3 arg4 harg4 arg5 harg5 arg6 harg6 arg7 harg7 arg8 harg8 v1 v3 v5 v7 v9 v11 v25 v39 v53 v67 v81 v95 v109 v123 v124 X1 X2 X3 X4 X5 f6 f7 f8 ⟨k, h⟩, pb_k0_t1_succ 𝒱 c bd i arg1 harg1 arg2 harg2 arg3 harg3 arg4 harg4 arg5 harg5 arg6 harg6 arg7 harg7 arg8 harg8 v1 v3 v5 v7 v9 v11 v25 v39 v53 v67 v81 v95 v109 v123 v124 X1 X2 X3 X4 X5 g6 g7 g8 ⟨k, h⟩]
    dsimp only
    rw [pb_indep 𝒱 c bd i arg1 harg1 arg2 harg2 arg3 harg3 arg4 harg4 arg5 harg5 arg6 harg6 arg7 harg7 arg8 harg8 v1 v3 v5 v7 v9 v11 v25 v39 v53 v67 v81 v95 v109 v123 v124 X1 X2 X3 X4 X5 f6 g6 f7 g7 f8 g8 k (by omega)]
    exact congrArg (· ++ _) (trip_indep 𝒱 c bd i arg1 harg1 arg2 harg2 arg3 harg3 arg4 harg4 arg5 harg5 arg6 harg6 arg7 harg7 arg8 harg8 v1 v3 v5 v7 v9 v11 v25 v39 v53 v67 v81 v95 v109 v123 v124 X1 X2 X3 X4 X5 ⟨k, h⟩ _ _ _ _ _ _)

/-- The pieces the body leaves in the output block, last first. -/
def outL (c : Dev nD) (i : grid0.Coords) (arg1 : Memref sig .tc .vmem S12288x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S320x96 .bf16) (harg4 : arg4.IsWhole) (arg5 : Memref sig .tc .vmem S320x128 .f32) (harg5 : arg5.IsWhole) (arg6 : Memref sig .tc .vmem S10240x128 .fp8e4m3) (harg6 : arg6.IsWhole) (arg7 : Memref sig .tc .vmem S320x128 .f32) (harg7 : arg7.IsWhole) (arg8 : Memref sig .tc .vmem S8x128 .f32) (harg8 : arg8.IsWhole)
    (x0 : Vec F S12288x128 .f32) (x1 : Vec F S128x128 .f32) (x2 : Vec F S128x128 .f32) (x3 : Vec F S320x96 .bf16) (x4 : Vec F S320x128 .f32) : List (View.Piece (Elt F) S10240x128 .fp8e4m3) :=
  (pb_k0_t1 (F := F) Variants.none c none i arg1 harg1 arg2 harg2 arg3 harg3 arg4 harg4 arg5 harg5 arg6 harg6 arg7 harg7 arg8 harg8 (iota .tc S8x128 32 [0] iota_S8x128_d0_w32) k0_pay223 k0_pay224 k0_pay225 k0_pay226 k0_pay227 k0_pay228 k0_pay229 (k0_pay231 (iota .tc S8x128 32 [1] iota_S8x128_d1_w32) (iota .tc S8x128 32 [0] iota_S8x128_d0_w32) k0_pay230) (k0_pay232 (iota .tc S8x128 32 [1] iota_S8x128_d1_w32) (iota .tc S8x128 32 [0] iota_S8x128_d0_w32)) (k0_pay233 (iota .tc S8x128 32 [1] iota_S8x128_d1_w32) (iota .tc S8x128 32 [0] iota_S8x128_d0_w32)) (k0_pay235 (iota .tc S8x128 32 [1] iota_S8x128_d1_w32) (iota .tc S8x128 32 [0] iota_S8x128_d0_w32) k0_pay234) (k0_pay236 (iota .tc S8x128 32 [1] iota_S8x128_d1_w32) (iota .tc S8x128 32 [0] iota_S8x128_d0_w32)) (k0_pay237 (iota .tc S8x128 32 [1] iota_S8x128_d1_w32) (iota .tc S8x128 32 [0] iota_S8x128_d0_w32)) k0_pay238
    (harg1.unread x0) (harg2.unread x1) (harg3.unread x2) (harg4.unread x3) (harg5.unread x4) arg6.view.junk arg7.view.junk arg8.view.junk k0_t1_loop.trips).1

set_option maxHeartbeats 1000000 in
/-- The body run: inputs as they were, the output block with its pieces written, the scratch at something. -/
theorem kernelRun0_A (c : Dev nD) (i : grid0.Coords) (arg1 : Memref sig .tc .vmem S12288x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S320x96 .bf16) (harg4 : arg4.IsWhole) (arg5 : Memref sig .tc .vmem S320x128 .f32) (harg5 : arg5.IsWhole) (arg6 : Memref sig .tc .vmem S10240x128 .fp8e4m3) (harg6 : arg6.IsWhole) (arg7 : Memref sig .tc .vmem S320x128 .f32) (harg7 : arg7.IsWhole) (arg8 : Memref sig .tc .vmem S8x128 .f32) (harg8 : arg8.IsWhole)
    (x0 : Vec F S12288x128 .f32) (x1 : Vec F S128x128 .f32) (x2 : Vec F S128x128 .f32) (x3 : Vec F S320x96 .bf16) (x4 : Vec F S320x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f (outL c i arg1 harg1 arg2 harg2 arg3 harg3 arg4 harg4 arg5 harg5 arg6 harg6 arg7 harg7 arg8 harg8 x0 x1 x2 x3 x4)) ∗ (∃ d, owns (c : Thread nD τ) arg7 fullShare d) ∗ (∃ d, owns (c : Thread nD τ) arg8 fullShare d)) -∗ K ⟨⟩))
          ⊢ wp frame (wpE (defs₀ (F := F)) Variants.none c none) E (cc0_layers i arg1 harg1 arg2 harg2 arg3 harg3 arg4 harg4 arg5 harg5 arg6 harg6 arg7 harg7 arg8 harg8) K := by
    intro E K
    unfold outL
    simp only [cc0_layers_eq_skeleton]; unfold cc0_layers_skel
    simp only [k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists f5
      rw [pb_indep (F := F) Variants.none c none i arg1 harg1 arg2 harg2 arg3 harg3 arg4 harg4 arg5 harg5 arg6 harg6 arg7 harg7 arg8 harg8 (iota .tc S8x128 32 [0] iota_S8x128_d0_w32) k0_pay223 k0_pay224 k0_pay225 k0_pay226 k0_pay227 k0_pay228 k0_pay229 (k0_pay231 (iota .tc S8x128 32 [1] iota_S8x128_d1_w32) (iota .tc S8x128 32 [0] iota_S8x128_d0_w32) k0_pay230) (k0_pay232 (iota .tc S8x128 32 [1] iota_S8x128_d1_w32) (iota .tc S8x128 32 [0] iota_S8x128_d0_w32)) (k0_pay233 (iota .tc S8x128 32 [1] iota_S8x128_d1_w32) (iota .tc S8x128 32 [0] iota_S8x128_d0_w32)) (k0_pay235 (iota .tc S8x128 32 [1] iota_S8x128_d1_w32) (iota .tc S8x128 32 [0] iota_S8x128_d0_w32) k0_pay234) (k0_pay236 (iota .tc S8x128 32 [1] iota_S8x128_d1_w32) (iota .tc S8x128 32 [0] iota_S8x128_d0_w32)) (k0_pay237 (iota .tc S8x128 32 [1] iota_S8x128_d1_w32) (iota .tc S8x128 32 [0] iota_S8x128_d0_w32)) k0_pay238 (harg1.unread x0) (harg2.unread x1) (harg3.unread x2) (harg4.unread x3) (harg5.unread x4) arg6.view.junk f5 arg7.view.junk fs0 arg8.view.junk fs1 k0_t1_loop.trips (le_refl _)]
      iexact H5
    isplitl [HS0]
    · iexists _, _; isplitr; swap; · iexact HS0
      ipureintro; rfl
    iexists _, _; isplitr; swap; · iexact HS1
    ipureintro; rfl

/-- The run's pieces tile the output block, so they cover it. -/
theorem cover0_A_5 (c : Dev nD) (i : grid0.Coords) (arg1 : Memref sig .tc .vmem S12288x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S320x96 .bf16) (harg4 : arg4.IsWhole) (arg5 : Memref sig .tc .vmem S320x128 .f32) (harg5 : arg5.IsWhole) (arg6 : Memref sig .tc .vmem S10240x128 .fp8e4m3) (harg6 : arg6.IsWhole) (arg7 : Memref sig .tc .vmem S320x128 .f32) (harg7 : arg7.IsWhole) (arg8 : Memref sig .tc .vmem S8x128 .f32) (harg8 : arg8.IsWhole)
    (x0 : Vec F S12288x128 .f32) (x1 : Vec F S128x128 .f32) (x2 : Vec F S128x128 .f32) (x3 : Vec F S320x96 .bf16) (x4 : Vec F S320x128 .f32) (y : S10240x128.Idx) :
    ∃ pc ∈ (outL c i arg1 harg1 arg2 harg2 arg3 harg3 arg4 harg4 arg5 harg5 arg6 harg6 arg7 harg7 arg8 harg8 x0 x1 x2 x3 x4), y ∈ pc.1.set :=
  View.cover_of_tiledL (outL c i arg1 harg1 arg2 harg2 arg3 harg3 arg4 harg4 arg5 harg5 arg6 harg6 arg7 harg7 arg8 harg8 x0 x1 x2 x3 x4) S80x128.size (by sl_kernel_rfl) y

/-- What the run leaves in output 5's staging buffer: its pieces read back over junk. -/
def out0_A_5 (c : Dev nD) (i : grid0.Coords) (arg1 : Memref sig .tc .vmem S12288x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S320x96 .bf16) (harg4 : arg4.IsWhole) (arg5 : Memref sig .tc .vmem S320x128 .f32) (harg5 : arg5.IsWhole) (arg6 : Memref sig .tc .vmem S10240x128 .fp8e4m3) (harg6 : arg6.IsWhole) (arg7 : Memref sig .tc .vmem S320x128 .f32) (harg7 : arg7.IsWhole) (arg8 : Memref sig .tc .vmem S8x128 .f32) (harg8 : arg8.IsWhole)
    (x0 : Vec F S12288x128 .f32) (x1 : Vec F S128x128 .f32) (x2 : Vec F S128x128 .f32) (x3 : Vec F S320x96 .bf16) (x4 : Vec F S320x128 .f32) : Vec F S10240x128 .fp8e4m3 :=
  VO0_5.read (Elt F) (VO0_5.writes (Elt F) VO0_5.junk (outL c i arg1 harg1 arg2 harg2 arg3 harg3 arg4 harg4 arg5 harg5 arg6 harg6 arg7 harg7 arg8 harg8 x0 x1 x2 x3 x4))

/-! ## What the outputs hold after each point -/

/-- What the outputs' staging buffers hold after the body at point `t`: the run's contents at
    the point's memrefs and input blocks. -/
def outsAt0 (c : Dev nD) (t : Fin cfg0.N) : Vec F S10240x128 .fp8e4m3 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out0_A_5
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_SecondIdeal`'s statement (Defs.lean) at any `F` — Proof.lean cites it at `Bits`:
    `theorem Cert.Proof.claim : Cert.Claim := ⟨Cert.SecondIdeal.Gen.facts, fun m ρ _ => Cert.SecondIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.SecondIdeal.Own

end
-- ==== Proof.STrip.lean ====
module

public import proofs.«01_k».proof.Proof.Gen.SecondIdeal.Loops
public import proofs.«01_k».proof.Proof.Trip

@[expose] public section

set_option maxRecDepth 16384

noncomputable section

namespace Cert.SecondIdeal.Trip

open Idealize.ShloMosaic Idealize.ShloMosaic.TcCoe Idealize.ShloMosaic.Tactic Idealize.ShloMosaic.Pointwise
open Cert.SecondIdeal Cert.SecondIdeal.Gen
open Cert.KernelIdeal.Trip (prj0 prj1 fac rc0 rc1 rc2 rc3)

variable {F : FTy → Type} [FloatOps F]

variable (𝒱 : Variants) (c : Dev nD) (bd : Option 𝒱.V) (i : grid0.Coords) (arg1 : Memref sig .tc .vmem S12288x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S320x96 .bf16) (harg4 : arg4.IsWhole) (arg5 : Memref sig .tc .vmem S320x128 .f32) (harg5 : arg5.IsWhole) (arg6 : Memref sig .tc .vmem S10240x128 .fp8e4m3) (harg6 : arg6.IsWhole) (arg7 : Memref sig .tc .vmem S320x128 .f32) (harg7 : arg7.IsWhole) (arg8 : Memref sig .tc .vmem S8x128 .f32) (harg8 : arg8.IsWhole) (v1 : IVec S8x128 32) (v3 v5 v7 v9 v11 v25 v39 v53 v67 v81 v95 v109 v123 : IVec S8x128 1) (v124 : IVec S8x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips)
  (f6 : BufTy.Contents (Elt F) arg6.view.ty) (f7 : BufTy.Contents (Elt F) arg7.view.ty) (f8 : BufTy.Contents (Elt F) arg8.view.ty)

/-- The rows times the next code scale, held within what a code can be. -/
def quant (y : FVec F S80x128 .f32) (r : FVec F S1x128 .f32) : FVec F S80x128 .fp8e4m3 :=
  truncf .fp8e4m3 (minimumf (broadcast S80x128 (Scalar.ofBits .f32 0x43E00000#32)) (maximumf (broadcast S80x128 (Scalar.ofBits .f32 0xC3E00000#32))
    (mulf (shapeCast S80x128 y shapeCasts_S80x128_S80x128) (broadcastTo S80x128 (shapeCast S1x128 r shapeCasts_S1x128_S1x128) broadcasts_S1x128_S80x128)))) bitsLt_fp8e4m3_f32

/-- The codes of group `4k + 2 r₁ + r₂`. -/
def xrow (r₁ r₂ : Fin 2) : Vec F S96x128 .f32 :=
  View.readAt (Elt F) arg1.view (Rect.unit (s := S12288x128) (k0_off1 k (BitVec.ofNat 32 (2 * r₁.val)) (BitVec.ofNat 32 r₂.val)) S96x128.size (k0_off1_inb k r₁ r₂)).toLoadRect X_arg1
/-- The code scales of group `4k + r`. -/
def srow (r : Fin 4) : Vec F S1x128 .f32 :=
  View.readAt (Elt F) arg2.view (Rect.unit (s := S128x128) (k0_off2 k (BitVec.ofNat 32 r.val)) S1x128.size (k0_off2_inb k r)).toLoadRect X_arg2
/-- The next code scales of group `4k + r`, against the code scales. -/
def irow (r : Fin 4) : Vec F S1x128 .f32 :=
  View.readAt (Elt F) arg3.view (Rect.unit (s := S128x128) (k0_off2 k (BitVec.ofNat 32 r.val)) S1x128.size (k0_off2_inb k r)).toLoadRect X_arg3
def wall : Vec F S320x96 .bf16 :=
  View.readAt (Elt F) arg4.view (Rect.unit (s := S320x96) ![0, 0] S320x96.size inb_S320x96_S320x96_0_0).toLoadRect X_arg4
def sall : Vec F S320x128 .f32 :=
  View.readAt (Elt F) arg5.view (Rect.unit (s := S320x128) ![0, 0] S320x128.size inb_S320x128_S320x128_0_0).toLoadRect X_arg5

theorem pieces :
    (tripL_k0_t1 𝒱 c bd i arg1 harg1 arg2 harg2 arg3 harg3 arg4 harg4 arg5 harg5 arg6 harg6 arg7 harg7 arg8 harg8 v1 v3 v5 v7 v9 v11 v25 v39 v53 v67 v81 v95 v109 v123 v124 X_arg1 X_arg2 X_arg3 X_arg4 X_arg5 k f6 f7 f8).1 =
    [⟨Rect.unit (k0_off3 k (BitVec.ofNat 32 (3 : Fin 4).val)) S80x128.size (k0_off3_inb k 3),
        quant (Cert.KernelIdeal.Att.att v3 v5 v7 v9 v25 v39 v53 v67 v81 v95 v109 (k0_pay1 v1 v123 v124) v11
          (prj1 (xrow arg1 X_arg1 k 1 0) (xrow arg1 X_arg1 k 1 1) (wall arg4 X_arg4) (sall arg5 X_arg5)) (fac (srow arg2 X_arg2 k 3))) (irow arg3 X_arg3 k 3)⟩,
     ⟨Rect.unit (k0_off3 k (BitVec.ofNat 32 (2 : Fin 4).val)) S80x128.size (k0_off3_inb k 2),
        quant (Cert.KernelIdeal.Att.att v3 v5 v7 v9 v25 v39 v53 v67 v81 v95 v109 (k0_pay1 v1 v123 v124) v11
          (prj0 (xrow arg1 X_arg1 k 1 0) (xrow arg1 X_arg1 k 1 1) (wall arg4 X_arg4) (sall arg5 X_arg5)) (fac (srow arg2 X_arg2 k 2))) (irow arg3 X_arg3 k 2)⟩,
     ⟨Rect.unit (k0_off3 k (BitVec.ofNat 32 (1 : Fin 4).val)) S80x128.size (k0_off3_inb k 1),
        quant (Cert.KernelIdeal.Att.att v3 v5 v7 v9 v25 v39 v53 v67 v81 v95 v109 (k0_pay1 v1 v123 v124) v11
          (prj1 (xrow arg1 X_arg1 k 0 0) (xrow arg1 X_arg1 k 0 1) (wall arg4 X_arg4) (sall arg5 X_arg5)) (fac (srow arg2 X_arg2 k 1))) (irow arg3 X_arg3 k 1)⟩,
     ⟨Rect.unit (k0_off3 k (BitVec.ofNat 32 (0 : Fin 4).val)) S80x128.size (k0_off3_inb k 0),
        quant (Cert.KernelIdeal.Att.att v3 v5 v7 v9 v25 v39 v53 v67 v81 v95 v109 (k0_pay1 v1 v123 v124) v11
          (prj0 (xrow arg1 X_arg1 k 0 0) (xrow arg1 X_arg1 k 0 1) (wall arg4 X_arg4) (sall arg5 X_arg5)) (fac (srow arg2 X_arg2 k 0))) (irow arg3 X_arg3 k 0)⟩] := by
  unfold tripL_k0_t1
  unfold trip_k0_t1
  dsimp only
  sl_unfold_words
  refine congrArg₂ List.cons (congrArg (fun w => (⟨_, w⟩ : View.Piece (Elt F) S10240x128 .fp8e4m3)) ?_) (congrArg₂ List.cons (congrArg (fun w => (⟨_, w⟩ : View.Piece (Elt F) S10240x128 .fp8e4m3)) ?_)
    (congrArg₂ List.cons (congrArg (fun w => (⟨_, w⟩ : View.Piece (Elt F) S10240x128 .fp8e4m3)) ?_) (congrArg₂ List.cons (congrArg (fun w => (⟨_, w⟩ : View.Piece (Elt F) S10240x128 .fp8e4m3)) ?_) rfl)))
  · rw [rc3]
    change _ = quant (Cert.KernelIdeal.Att.att v3 v5 v7 v9 v25 v39 v53 v67 v81 v95 v109 (k0_pay1 v1 v123 v124) v11
          (prj1 (View.readAt (Elt F) arg1.view (Rect.unit (s := S12288x128) (k0_off1 k (BitVec.ofNat 32 (2 * (1 : Fin 2).val)) (BitVec.ofNat 32 (0 : Fin 2).val)) S96x128.size (k0_off1_inb k 1 0)).toLoadRect X_arg1) (View.readAt (Elt F) arg1.view (Rect.unit (s := S12288x128) (k0_off1 k (BitVec.ofNat 32 (2 * (1 : Fin 2).val)) (BitVec.ofNat 32 (1 : Fin 2).val)) S96x128.size (k0_off1_inb k 1 1)).toLoadRect X_arg1)
            (View.readAt (Elt F) arg4.view (Rect.unit (s := S320x96) ![0, 0] S320x96.size inb_S320x96_S320x96_0_0).toLoadRect X_arg4)
            (View.readAt (Elt F) arg5.view (Rect.unit (s := S320x128) ![0, 0] S320x128.size inb_S320x128_S320x128_0_0).toLoadRect X_arg5)) (fac (srow arg2 X_arg2 k 3))) (irow arg3 X_arg3 k 3)
    generalize View.readAt (Elt F) arg4.view _ X_arg4 = w
    generalize View.readAt (Elt F) arg5.view _ X_arg5 = s
    generalize k0_pay1 v1 v123 v124 = v126
    rfl
  · rw [rc2]
    change _ = quant (Cert.KernelIdeal.Att.att v3 v5 v7 v9 v25 v39 v53 v67 v81 v95 v109 (k0_pay1 v1 v123 v124) v11
          (prj0 (View.readAt (Elt F) arg1.view (Rect.unit (s := S12288x128) (k0_off1 k (BitVec.ofNat 32 (2 * (1 : Fin 2).val)) (BitVec.ofNat 32 (0 : Fin 2).val)) S96x128.size (k0_off1_inb k 1 0)).toLoadRect X_arg1) (View.readAt (Elt F) arg1.view (Rect.unit (s := S12288x128) (k0_off1 k (BitVec.ofNat 32 (2 * (1 : Fin 2).val)) (BitVec.ofNat 32 (1 : Fin 2).val)) S96x128.size (k0_off1_inb k 1 1)).toLoadRect X_arg1)
            (View.readAt (Elt F) arg4.view (Rect.unit (s := S320x96) ![0, 0] S320x96.size inb_S320x96_S320x96_0_0).toLoadRect X_arg4)
            (View.readAt (Elt F) arg5.view (Rect.unit (s := S320x128) ![0, 0] S320x128.size inb_S320x128_S320x128_0_0).toLoadRect X_arg5)) (fac (srow arg2 X_arg2 k 2))) (irow arg3 X_arg3 k 2)
    generalize View.readAt (Elt F) arg4.view _ X_arg4 = w
    generalize View.readAt (Elt F) arg5.view _ X_arg5 = s
    generalize k0_pay1 v1 v123 v124 = v126
    rfl
  · rw [rc1]
    change _ = quant (Cert.KernelIdeal.Att.att v3 v5 v7 v9 v25 v39 v53 v67 v81 v95 v109 (k0_pay1 v1 v123 v124) v11
          (prj1 (View.readAt (Elt F) arg1.view (Rect.unit (s := S12288x128) (k0_off1 k (BitVec.ofNat 32 (2 * (0 : Fin 2).val)) (BitVec.ofNat 32 (0 : Fin 2).val)) S96x128.size (k0_off1_inb k 0 0)).toLoadRect X_arg1) (View.readAt (Elt F) arg1.view (Rect.unit (s := S12288x128) (k0_off1 k (BitVec.ofNat 32 (2 * (0 : Fin 2).val)) (BitVec.ofNat 32 (1 : Fin 2).val)) S96x128.size (k0_off1_inb k 0 1)).toLoadRect X_arg1)
            (View.readAt (Elt F) arg4.view (Rect.unit (s := S320x96) ![0, 0] S320x96.size inb_S320x96_S320x96_0_0).toLoadRect X_arg4)
            (View.readAt (Elt F) arg5.view (Rect.unit (s := S320x128) ![0, 0] S320x128.size inb_S320x128_S320x128_0_0).toLoadRect X_arg5)) (fac (srow arg2 X_arg2 k 1))) (irow arg3 X_arg3 k 1)
    generalize View.readAt (Elt F) arg4.view _ X_arg4 = w
    generalize View.readAt (Elt F) arg5.view _ X_arg5 = s
    generalize k0_pay1 v1 v123 v124 = v126
    rfl
  · rw [rc0]
    change _ = quant (Cert.KernelIdeal.Att.att v3 v5 v7 v9 v25 v39 v53 v67 v81 v95 v109 (k0_pay1 v1 v123 v124) v11
          (prj0 (View.readAt (Elt F) arg1.view (Rect.unit (s := S12288x128) (k0_off1 k (BitVec.ofNat 32 (2 * (0 : Fin 2).val)) (BitVec.ofNat 32 (0 : Fin 2).val)) S96x128.size (k0_off1_inb k 0 0)).toLoadRect X_arg1) (View.readAt (Elt F) arg1.view (Rect.unit (s := S12288x128) (k0_off1 k (BitVec.ofNat 32 (2 * (0 : Fin 2).val)) (BitVec.ofNat 32 (1 : Fin 2).val)) S96x128.size (k0_off1_inb k 0 1)).toLoadRect X_arg1)
            (View.readAt (Elt F) arg4.view (Rect.unit (s := S320x96) ![0, 0] S320x96.size inb_S320x96_S320x96_0_0).toLoadRect X_arg4)
            (View.readAt (Elt F) arg5.view (Rect.unit (s := S320x128) ![0, 0] S320x128.size inb_S320x128_S320x128_0_0).toLoadRect X_arg5)) (fac (srow arg2 X_arg2 k 0))) (irow arg3 X_arg3 k 0)
    generalize View.readAt (Elt F) arg4.view _ X_arg4 = w
    generalize View.readAt (Elt F) arg5.view _ X_arg5 = s
    generalize k0_pay1 v1 v123 v124 = v126
    rfl

end Cert.SecondIdeal.Trip
end
-- ==== Proof.SBlock.lean ====
/- What the second layer's body leaves in the output block, as a function of its five input blocks. -/
module

public import proofs.«01_k».proof.Proof.Block
public import proofs.«01_k».proof.Proof.STrip
public import proofs.«01_k».proof.Proof.SRun
public import Idealize.ShloMosaic.Lib.Pipeline.ValueKit.Tiles

@[expose] public section

set_option maxRecDepth 16384

noncomputable section

namespace Cert.SecondIdeal.Block

open Idealize.ShloMosaic Idealize.ShloMosaic.TcCoe Idealize.ShloMosaic.Tactic Idealize.ShloMosaic.Pointwise
open Cert.SecondIdeal Cert.SecondIdeal.Gen Cert.SecondIdeal.Trip
open Cert.KernelIdeal.Trip (prj prj0 prj1 fac)
open Cert.KernelIdeal.Block (pg rg ag)

abbrev io0 : IVec S8x128 32 := iota .tc S8x128 32 [0] iota_S8x128_d0_w32
abbrev io1 : IVec S8x128 32 := iota .tc S8x128 32 [1] iota_S8x128_d1_w32

variable (x0 : Vec Ideal S12288x128 .f32) (x1 xi : Vec Ideal S128x128 .f32) (x2 : Vec Ideal S320x96 .bf16) (x3 : Vec Ideal S320x128 .f32)

/-- The output rows of group `g`. -/
def og (g : Fin 128) : FVec Ideal S80x128 .fp8e4m3 := quant (ag x0 x1 x2 x3 g) (rg xi g)

section Reads

variable (arg1 : Memref sig .tc .vmem S12288x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S320x96 .bf16) (harg4 : arg4.IsWhole) (arg5 : Memref sig .tc .vmem S320x128 .f32) (harg5 : arg5.IsWhole)

theorem lt_trips (k : Fin k0_t1_loop.trips) : k.val < 32 := Nat.lt_of_lt_of_le k.isLt k0_t1_abs.2.1

theorem xrow_apply (k : Fin k0_t1_loop.trips) (r₁ r₂ : Fin 2) (a : Fin 96) (l : Fin 128) (h : 96 * (4 * k.val + 2 * r₁.val + r₂.val) + a.val < 12288) :
    xrow (F := Ideal) arg1 (harg1.unread x0) k r₁ r₂ (ix2 a l) = x0 (ix2 ⟨96 * (4 * k.val + 2 * r₁.val + r₂.val) + a.val, h⟩ l) := by
  unfold xrow
  rw [View.readAt_eq_ld, harg1.read_unread]
  refine View.ld_unit_apply_of _ _ _ _ _ _ ?_
  refine Fin.forall_fin_two.mpr ⟨?_, ?_⟩
  · have e : k0_off1 k (BitVec.ofNat 32 (2 * r₁.val)) (BitVec.ofNat 32 r₂.val) (0 : Fin 2) = 384 * k.val + 192 * r₁.val + 96 * r₂.val := congrFun (k0_off1_eq k r₁ r₂) 0
    show 96 * (4 * k.val + 2 * r₁.val + r₂.val) + a.val = k0_off1 k (BitVec.ofNat 32 (2 * r₁.val)) (BitVec.ofNat 32 r₂.val) (0 : Fin 2) + a.val
    omega
  · have e : k0_off1 k (BitVec.ofNat 32 (2 * r₁.val)) (BitVec.ofNat 32 r₂.val) (1 : Fin 2) = 0 := congrFun (k0_off1_eq k r₁ r₂) 1
    show l.val = k0_off1 k (BitVec.ofNat 32 (2 * r₁.val)) (BitVec.ofNat 32 r₂.val) (1 : Fin 2) + l.val
    omega

theorem srow_eq (k : Fin k0_t1_loop.trips) (r : Fin 4) (h : 4 * k.val + r.val < 128) :
    srow (F := Ideal) arg2 (harg2.unread x1) k r = rg x1 ⟨4 * k.val + r.val, h⟩ := by
  funext i
  unfold srow
  rw [View.readAt_eq_ld, harg2.read_unread]
  refine View.ld_unit_apply_of _ _ _ _ _ _ ?_
  have h0 : (i 0 : Nat) = 0 := by have : (i 0 : Nat) < 1 := (i 0).isLt; omega
  refine Fin.forall_fin_two.mpr ⟨?_, ?_⟩
  · have e : k0_off2 k (BitVec.ofNat 32 r.val) (0 : Fin 2) = 4 * k.val + r.val := congrFun (k0_off2_eq k r) 0
    show 4 * k.val + r.val = k0_off2 k (BitVec.ofNat 32 r.val) (0 : Fin 2) + (i 0 : Nat)
    omega
  · have e : k0_off2 k (BitVec.ofNat 32 r.val) (1 : Fin 2) = 0 := congrFun (k0_off2_eq k r) 1
    show (i 1 : Nat) = k0_off2 k (BitVec.ofNat 32 r.val) (1 : Fin 2) + (i 1 : Nat)
    omega

theorem irow_eq (k : Fin k0_t1_loop.trips) (r : Fin 4) (h : 4 * k.val + r.val < 128) :
    irow (F := Ideal) arg3 (harg3.unread xi) k r = rg xi ⟨4 * k.val + r.val, h⟩ := by
  funext i
  unfold irow
  rw [View.readAt_eq_ld, harg3.read_unread]
  refine View.ld_unit_apply_of _ _ _ _ _ _ ?_
  have h0 : (i 0 : Nat) = 0 := by have : (i 0 : Nat) < 1 := (i 0).isLt; omega
  refine Fin.forall_fin_two.mpr ⟨?_, ?_⟩
  · have e : k0_off2 k (BitVec.ofNat 32 r.val) (0 : Fin 2) = 4 * k.val + r.val := congrFun (k0_off2_eq k r) 0
    show 4 * k.val + r.val = k0_off2 k (BitVec.ofNat 32 r.val) (0 : Fin 2) + (i 0 : Nat)
    omega
  · have e : k0_off2 k (BitVec.ofNat 32 r.val) (1 : Fin 2) = 0 := congrFun (k0_off2_eq k r) 1
    show (i 1 : Nat) = k0_off2 k (BitVec.ofNat 32 r.val) (1 : Fin 2) + (i 1 : Nat)
    omega

theorem wall_eq : wall (F := Ideal) arg4 (harg4.unread x2) = x2 := by
  unfold wall
  rw [View.readAt_eq_ld, harg4.read_unread]
  exact View.ld_unit_lit (S := S320x96) _ x2 (by decide)

theorem sall_eq : sall (F := Ideal) arg5 (harg5.unread x3) = x3 := by
  unfold sall
  rw [View.readAt_eq_ld, harg5.read_unread]
  exact View.ld_unit_lit (S := S320x128) _ x3 (by decide)

theorem prj0_eq (k : Fin k0_t1_loop.trips) (r₁ : Fin 2) (g : Fin 128) (hg : g.val = 4 * k.val + 2 * r₁.val) :
    prj0 (xrow (F := Ideal) arg1 (harg1.unread x0) k r₁ 0) (xrow (F := Ideal) arg1 (harg1.unread x0) k r₁ 1) x2 x3 = pg x0 x2 x3 g := by
  funext i
  obtain ⟨r, l, rfl⟩ : ∃ r l, i = ix2 r l := ⟨i 0, i 1, funext (Fin.forall_fin_two.mpr ⟨rfl, rfl⟩)⟩
  have hk := lt_trips k
  pointwise [prj0, prj]
  unfold pg
  refine congrArg (· * _) (Finset.sum_congr rfl fun a _ => congrArg (_ * ·) ?_)
  rw [xrow_apply x0 arg1 harg1 k r₁ 0 a l (by have := a.isLt; have := r₁.isLt; simp only [Fin.val_zero]; omega)]
  exact congrArg x0 (congrArg (ix2 · l) (Fin.ext (by simp only [hg, Fin.val_zero]; omega)))

theorem prj1_eq (k : Fin k0_t1_loop.trips) (r₁ : Fin 2) (g : Fin 128) (hg : g.val = 4 * k.val + 2 * r₁.val + 1) :
    prj1 (xrow (F := Ideal) arg1 (harg1.unread x0) k r₁ 0) (xrow (F := Ideal) arg1 (harg1.unread x0) k r₁ 1) x2 x3 = pg x0 x2 x3 g := by
  funext i
  obtain ⟨r, l, rfl⟩ : ∃ r l, i = ix2 r l := ⟨i 0, i 1, funext (Fin.forall_fin_two.mpr ⟨rfl, rfl⟩)⟩
  have hk := lt_trips k
  pointwise [prj1, prj]
  unfold pg
  refine congrArg (· * _) (Finset.sum_congr rfl fun a _ => congrArg (_ * ·) ?_)
  rw [xrow_apply x0 arg1 harg1 k r₁ 1 a l (by have := a.isLt; have := r₁.isLt; simp only [Fin.val_one]; omega)]
  exact congrArg x0 (congrArg (ix2 · l) (Fin.ext (by simp only [hg, Fin.val_one])))

end Reads

/-- The output block read at an index: the rows of the group it belongs to. -/
def blk (y : S10240x128.Idx) : Elt Ideal .fp8e4m3 :=
  og x0 x1 xi x2 x3 ⟨(y 0).val / 80, by have : (y 0).val < 10240 := (y 0).isLt; omega⟩ (ix2 ⟨(y 0).val % 80, by omega⟩ (y 1))

/-- A piece that holds the block's values where it lies. -/
def Good (p : View.Piece (Elt Ideal) S10240x128 .fp8e4m3) : Prop := ∀ x, p.2 x = blk x0 x1 xi x2 x3 (p.1.emb x)

theorem good_of (k : Fin k0_t1_loop.trips) (r : Fin 4) (g : Fin 128) (hg : g.val = 4 * k.val + r.val) (w : FVec Ideal S80x128 .fp8e4m3) (hw : w = og x0 x1 xi x2 x3 g) :
    Good x0 x1 xi x2 x3 ⟨Rect.unit (s := S10240x128) (k0_off3 k (BitVec.ofNat 32 r.val)) S80x128.size (k0_off3_inb k r), w⟩ := by
  subst hw
  intro (x : S80x128.Idx)
  have h0 : (((Rect.unit (s := S10240x128) (k0_off3 k (BitVec.ofNat 32 r.val)) S80x128.size (k0_off3_inb k r)).emb x) 0).val = 80 * g.val + (x 0).val := by
    show k0_off3 k (BitVec.ofNat 32 r.val) 0 + 1 * (x 0).val = _
    rw [k0_off3_eq]
    show (320 * k.val + 80 * r.val) + 1 * (x 0).val = _
    omega
  have h1 : (((Rect.unit (s := S10240x128) (k0_off3 k (BitVec.ofNat 32 r.val)) S80x128.size (k0_off3_inb k r)).emb x) 1) = x 1 := by
    refine Fin.ext ?_
    show k0_off3 k (BitVec.ofNat 32 r.val) 1 + 1 * (x 1).val = _
    rw [k0_off3_eq]
    show 0 + 1 * (x 1).val = _
    omega
  have hx : (x 0).val < 80 := (x 0).isLt
  show og x0 x1 xi x2 x3 g x = blk x0 x1 xi x2 x3 _
  unfold blk
  have eg : (⟨(((Rect.unit (s := S10240x128) (k0_off3 k (BitVec.ofNat 32 r.val)) S80x128.size (k0_off3_inb k r)).emb x) 0).val / 80, by omega⟩ : Fin 128) = g := Fin.ext (by show _ / 80 = _; rw [h0]; omega)
  have ex : (ix2 (⟨(((Rect.unit (s := S10240x128) (k0_off3 k (BitVec.ofNat 32 r.val)) S80x128.size (k0_off3_inb k r)).emb x) 0).val % 80, by omega⟩ : Fin 80) (((Rect.unit (s := S10240x128) (k0_off3 k (BitVec.ofNat 32 r.val)) S80x128.size (k0_off3_inb k r)).emb x) 1) : S80x128.Idx) = x := by
    refine funext (Fin.forall_fin_two.mpr ⟨Fin.ext ?_, ?_⟩)
    · show _ % 80 = _
      rw [h0]; omega
    · exact h1
  exact (congr (congrArg _ eg) ex).symm

section Run

variable (c : Dev nD) (i : grid0.Coords) (arg1 : Memref sig .tc .vmem S12288x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S320x96 .bf16) (harg4 : arg4.IsWhole) (arg5 : Memref sig .tc .vmem S320x128 .f32) (harg5 : arg5.IsWhole) (arg6 : Memref sig .tc .vmem S10240x128 .fp8e4m3) (harg6 : arg6.IsWhole) (arg7 : Memref sig .tc .vmem S320x128 .f32) (harg7 : arg7.IsWhole) (arg8 : Memref sig .tc .vmem S8x128 .f32) (harg8 : arg8.IsWhole)

theorem good_trip (k : Fin k0_t1_loop.trips) (f6 : BufTy.Contents (Elt Ideal) arg6.view.ty) (f7 : BufTy.Contents (Elt Ideal) arg7.view.ty) (f8 : BufTy.Contents (Elt Ideal) arg8.view.ty) :
    ∀ p ∈ (tripL_k0_t1 (F := Ideal) Variants.none c none i arg1 harg1 arg2 harg2 arg3 harg3 arg4 harg4 arg5 harg5 arg6 harg6 arg7 harg7 arg8 harg8 io0 k0_pay223 k0_pay224 k0_pay225 k0_pay226 k0_pay227 k0_pay228 k0_pay229 (k0_pay231 io1 io0 k0_pay230) (k0_pay232 io1 io0) (k0_pay233 io1 io0) (k0_pay235 io1 io0 k0_pay234) (k0_pay236 io1 io0) (k0_pay237 io1 io0) k0_pay238
      (harg1.unread x0) (harg2.unread x1) (harg3.unread xi) (harg4.unread x2) (harg5.unread x3) k f6 f7 f8).1, Good x0 x1 xi x2 x3 p := by
  have hk := lt_trips k
  rw [pieces]
  rw [wall_eq x2 arg4 harg4, sall_eq x3 arg5 harg5]
  rw [srow_eq x1 arg2 harg2 k 0 (by simp only [Fin.val_zero]; omega), srow_eq x1 arg2 harg2 k 1 (by show 4 * k.val + 1 < 128; omega), srow_eq x1 arg2 harg2 k 2 (by show 4 * k.val + 2 < 128; omega), srow_eq x1 arg2 harg2 k 3 (by show 4 * k.val + 3 < 128; omega)]
  rw [irow_eq xi arg3 harg3 k 0 (by simp only [Fin.val_zero]; omega), irow_eq xi arg3 harg3 k 1 (by show 4 * k.val + 1 < 128; omega), irow_eq xi arg3 harg3 k 2 (by show 4 * k.val + 2 < 128; omega), irow_eq xi arg3 harg3 k 3 (by show 4 * k.val + 3 < 128; omega)]
  rw [prj0_eq x0 x2 x3 arg1 harg1 k 0 ⟨4 * k.val + 0, by omega⟩ rfl, prj1_eq x0 x2 x3 arg1 harg1 k 0 ⟨4 * k.val + 1, by omega⟩ rfl, prj0_eq x0 x2 x3 arg1 harg1 k 1 ⟨4 * k.val + 2, by omega⟩ rfl, prj1_eq x0 x2 x3 arg1 harg1 k 1 ⟨4 * k.val + 3, by omega⟩ rfl]
  intro p hp
  simp only [List.mem_cons, List.not_mem_nil, or_false] at hp
  rcases hp with rfl | rfl | rfl | rfl
  · exact good_of x0 x1 xi x2 x3 k 3 ⟨4 * k.val + 3, by omega⟩ rfl _ rfl
  · exact good_of x0 x1 xi x2 x3 k 2 ⟨4 * k.val + 2, by omega⟩ rfl _ rfl
  · exact good_of x0 x1 xi x2 x3 k 1 ⟨4 * k.val + 1, by omega⟩ rfl _ rfl
  · exact good_of x0 x1 xi x2 x3 k 0 ⟨4 * k.val + 0, by omega⟩ rfl _ rfl

theorem good_pb (f6 : BufTy.Contents (Elt Ideal) arg6.view.ty) (f7 : BufTy.Contents (Elt Ideal) arg7.view.ty) (f8 : BufTy.Contents (Elt Ideal) arg8.view.ty) : ∀ k : Nat, k ≤ k0_t1_loop.trips →
    ∀ p ∈ (pb_k0_t1 (F := Ideal) Variants.none c none i arg1 harg1 arg2 harg2 arg3 harg3 arg4 harg4 arg5 harg5 arg6 harg6 arg7 harg7 arg8 harg8 io0 k0_pay223 k0_pay224 k0_pay225 k0_pay226 k0_pay227 k0_pay228 k0_pay229 (k0_pay231 io1 io0 k0_pay230) (k0_pay232 io1 io0) (k0_pay233 io1 io0) (k0_pay235 io1 io0 k0_pay234) (k0_pay236 io1 io0) (k0_pay237 io1 io0) k0_pay238
      (harg1.unread x0) (harg2.unread x1) (harg3.unread xi) (harg4.unread x2) (harg5.unread x3) f6 f7 f8 k).1, Good x0 x1 xi x2 x3 p
  | 0, _ => fun p hp => absurd hp (List.not_mem_nil)
  | k + 1, h => by
    intro p hp
    rw [pb_k0_t1_succ Variants.none c none i arg1 harg1 arg2 harg2 arg3 harg3 arg4 harg4 arg5 harg5 arg6 harg6 arg7 harg7 arg8 harg8 _ _ _ _ _ _ _ _ _ _ _ _ _ _ _ _ _ _ _ _ f6 f7 f8 ⟨k, h⟩] at hp
    dsimp only at hp
    rcases List.mem_append.mp hp with hp | hp
    · exact good_trip x0 x1 xi x2 x3 c i arg1 harg1 arg2 harg2 arg3 harg3 arg4 harg4 arg5 harg5 arg6 harg6 arg7 harg7 arg8 harg8 ⟨k, h⟩ _ _ _ p hp
    · exact good_pb f6 f7 f8 k (by omega) p hp

/-- The output block after the body, as a function of the input blocks. -/
theorem out_eq (y : S10240x128.Idx) : Own.out0_A_5 (F := Ideal) c i arg1 harg1 arg2 harg2 arg3 harg3 arg4 harg4 arg5 harg5 arg6 harg6 arg7 harg7 arg8 harg8 x0 x1 xi x2 x3 y = blk x0 x1 xi x2 x3 y := by
  unfold Own.out0_A_5
  rw [View.read_writes_eq_canon _ _ _ (Own.cover0_A_5 c i arg1 harg1 arg2 harg2 arg3 harg3 arg4 harg4 arg5 harg5 arg6 harg6 arg7 harg7 arg8 harg8 x0 x1 xi x2 x3)]
  refine View.canon_eq_of_allAt _ _ _ (Own.cover0_A_5 c i arg1 harg1 arg2 harg2 arg3 harg3 arg4 harg4 arg5 harg5 arg6 harg6 arg7 harg7 arg8 harg8 x0 x1 xi x2 x3 y) ?_
  intro p hp x hx
  rw [← hx]
  exact good_pb x0 x1 xi x2 x3 c i arg1 harg1 arg2 harg2 arg3 harg3 arg4 harg4 arg5 harg5 arg6 harg6 arg7 harg7 arg8 harg8 _ _ _ _ (le_refl _) p hp x

end Run

end Cert.SecondIdeal.Block
end
-- ==== Proof.SArr.lean ====
/- The second layer's result array after the run. -/
module

public import proofs.«01_k».proof.Proof.SBlock
public import proofs.«01_k».proof.Proof.Host

@[expose] public section

set_option maxRecDepth 16384

noncomputable section

namespace Cert.SecondIdeal.Arr

open Idealize.ShloMosaic Idealize.ShloMosaic.TcCoe Idealize.ShloMosaic.Pointwise Idealize.SL.Sem
open Cert.SecondIdeal Cert.SecondIdeal.Gen

variable (m : (ℓ : Loc nD τ sig) → Buf (Elt Ideal) ℓ) (c : Dev nD)

theorem tN (t : Fin cfg0.N) : t.val < 64 := by have h : cfg0.N = 64 := N_0; have := t.isLt; omega

theorem coord (t : Fin cfg0.N) : ((grid0.coords t) 0).val = t.val := by
  have := tN t
  show t.val / 1 % 64 = t.val
  omega

theorem iblk0 (t : Fin cfg0.N) (j : S12288x128.Idx) : iblk m c 0 t j = V m c main_v15 (ix2 ⟨t.val * 12288 + (j 0).val, by have := tN t; have : (j 0).val < 12288 := (j 0).isLt; omega⟩ (j 1)) := by
  have := tN t
  show V m c main_v15 _ = V m c main_v15 _
  refine congrArg _ (funext (Fin.forall_fin_two.mpr ⟨Fin.ext ?_, Fin.ext ?_⟩))
  · show (BitVec.ofNat 32 ((grid0.coords t) 0).val).toNat * 12288 + 1 * (j 0).val = t.val * 12288 + (j 0).val
    rw [coord, BitVec.toNat_ofNat]
    omega
  · show 0 * 128 + 1 * (j 1).val = (j 1).val
    omega

theorem iblk1 (t : Fin cfg0.N) (j : S128x128.Idx) : iblk m c 1 t j = V m c main_v22 (ix2 ⟨t.val * 128 + (j 0).val, by have := tN t; have : (j 0).val < 128 := (j 0).isLt; omega⟩ (j 1)) := by
  have := tN t
  show V m c main_v22 _ = V m c main_v22 _
  refine congrArg _ (funext (Fin.forall_fin_two.mpr ⟨Fin.ext ?_, Fin.ext ?_⟩))
  · show (BitVec.ofNat 32 ((grid0.coords t) 0).val).toNat * 128 + 1 * (j 0).val = t.val * 128 + (j 0).val
    rw [coord, BitVec.toNat_ofNat]
    omega
  · show 0 * 128 + 1 * (j 1).val = (j 1).val
    omega

theorem iblk2 (t : Fin cfg0.N) (j : S128x128.Idx) : iblk m c 2 t j = V m c main_v35 (ix2 ⟨t.val * 128 + (j 0).val, by have := tN t; have : (j 0).val < 128 := (j 0).isLt; omega⟩ (j 1)) := by
  have := tN t
  show V m c main_v35 _ = V m c main_v35 _
  refine congrArg _ (funext (Fin.forall_fin_two.mpr ⟨Fin.ext ?_, Fin.ext ?_⟩))
  · show (BitVec.ofNat 32 ((grid0.coords t) 0).val).toNat * 128 + 1 * (j 0).val = t.val * 128 + (j 0).val
    rw [coord, BitVec.toNat_ofNat]
    omega
  · show 0 * 128 + 1 * (j 1).val = (j 1).val
    omega

theorem iblk3 (t : Fin cfg0.N) : iblk m c 3 t = V m c main_v2 := by
  funext (j : S320x96.Idx)
  show V m c main_v2 _ = V m c main_v2 _
  refine congrArg _ (funext (Fin.forall_fin_two.mpr ⟨Fin.ext ?_, Fin.ext ?_⟩))
  · show 0 * 320 + 1 * (j 0).val = (j 0).val
    omega
  · show 0 * 96 + 1 * (j 1).val = (j 1).val
    omega

theorem iblk4 (t : Fin cfg0.N) : iblk m c 4 t = V m c main_v4 := by
  funext (j : S320x128.Idx)
  show V m c main_v4 _ = V m c main_v4 _
  refine congrArg _ (funext (Fin.forall_fin_two.mpr ⟨Fin.ext ?_, Fin.ext ?_⟩))
  · show 0 * 320 + 1 * (j 0).val = (j 0).val
    omega
  · show 0 * 128 + 1 * (j 1).val = (j 1).val
    omega

/-- The grid point that writes a row. -/
def pt (y : S655360x128.Idx) : Fin cfg0.N := ⟨(y 0).val / 10240, by have h : cfg0.N = 64 := N_0; have : (y 0).val < 655360 := (y 0).isLt; omega⟩

/-- The result array: each point's block of rows. -/
def out : Vec Ideal S655360x128 .fp8e4m3 := fun y =>
  Block.blk (iblk m c 0 (pt y)) (iblk m c 1 (pt y)) (iblk m c 2 (pt y)) (iblk m c 3 (pt y)) (iblk m c 4 (pt y)) (ix2 ⟨(y 0).val % 10240, by omega⟩ (y 1))

theorem out_at (t : Fin cfg0.N) (j : S10240x128.Idx) (y : S655360x128.Idx) (h0 : (y 0).val = t.val * 10240 + (j 0).val) (h1 : (y 1).val = (j 1).val) :
    out m c y = Block.blk (iblk m c 0 t) (iblk m c 1 t) (iblk m c 2 t) (iblk m c 3 t) (iblk m c 4 t) j := by
  have hj : (j 0).val < 10240 := (j 0).isLt
  have hp : pt y = t := Fin.ext (by show (y 0).val / 10240 = t.val; omega)
  unfold out
  rw [hp]
  refine congrArg _ (funext (Fin.forall_fin_two.mpr ⟨Fin.ext ?_, Fin.ext ?_⟩))
  · show (y 0).val % 10240 = (j 0).val
    omega
  · exact h1

theorem flushed_eq (t : Fin cfg0.N) (hf : (cfg0.win 5).flush t = true) :
    (Own.dats m 0 c).flushed 5 t = ((cfg0.win 5).blk t).view.read (Elt Ideal) (out m c) := by
  have := tN t
  show (cfg0.win 5).cut (grid0.coords t) ((Own.dats m 0 c).after 5 t) = _
  funext (j : S10240x128.Idx)
  have e : ((cfg0.win 5).cut (grid0.coords t) ((Own.dats m 0 c).after 5 t)) j = Own.outsAt0 m c t j := by
    rw [Own.after0_5]; rfl
  rw [e]
  unfold Own.outsAt0
  rw [Block.out_eq]
  refine (out_at m c t j _ ?_ ?_).symm
  · show (BitVec.ofNat 32 ((grid0.coords t) 0).val).toNat * 10240 + 1 * (j 0).val = t.val * 10240 + (j 0).val
    rw [coord, BitVec.toNat_ofNat]
    omega
  · show 0 * 128 + 1 * (j 1).val = (j 1).val
    omega

theorem final : (Own.dats m 0 c).arrAt 5 cfg0.N = out m c :=
  (Own.dats m 0 c).arrAt_eq_of_cover 5 (out m c) (flushed_eq m c) fun (i : S655360x128.Idx) =>
    ⟨pt i, flush0_5 _, by
      have := tN (pt i)
      show i ∈ ((View.whole main_v36).slice (win0_5.rect (pt i))).set
      rw [View.set_slice_whole, Rect.mem_set_unit]
      intro a
      have h0 : (i 0 : Nat) < 655360 := (i 0).isLt
      have h1 : (i 1 : Nat) < 128 := (i 1).isLt
      match a with
      | ⟨0, _⟩ =>
        show (BitVec.ofNat 32 ((grid0.coords (pt i)) 0).val).toNat * 10240 ≤ (i 0 : Nat) ∧ (i 0 : Nat) < (BitVec.ofNat 32 ((grid0.coords (pt i)) 0).val).toNat * 10240 + 10240
        rw [coord, BitVec.toNat_ofNat]
        have e : (pt i).val = (i 0 : Nat) / 10240 := rfl
        omega
      | ⟨1, _⟩ =>
        show 0 * 128 ≤ (i 1 : Nat) ∧ (i 1 : Nat) < 0 * 128 + 128
        omega⟩

end Cert.SecondIdeal.Arr

end
-- ==== Proof.SHostRun.lean ====
/- What the second layer's host's arrays hold when the kernel is entered, and what the host makes of the kernel's array. -/
module

public import proofs.«01_k».proof.Proof.SRun
public import proofs.«01_k».proof.Proof.Host
public import Idealize.ShloMosaic.Lib.StableHlo.RunRead

@[expose] public section

set_option maxRecDepth 16384

noncomputable section

namespace Cert.SecondIdeal.Host

open Idealize.ShloMosaic Idealize.ShloMosaic.TcCoe Idealize.ShloMosaic.Pointwise Idealize.SL.Sem
open Cert.SecondIdeal Cert.SecondIdeal.Gen
open Cert.KernelIdeal.Host (rows pow codes scales wts wsc res rows_apply)

variable {F : FTy → Type} [FloatOps F]

/-- Two to the power of the exponents less the next ones. -/
def ratio (a a' : Vec F S40960 .i32) : Vec F S40960 .f32 :=
  Idealize.ShloMosaic.Host.exp (mulf (broadcastInDim S40960 ![] bcast_S_S40960 (constant S_ .f32 0x3F317218#32)) (subf (sitofp .f32 a) (sitofp .f32 a')))

/-- The next scales against the scales, as the kernel's rows. -/
def inv (a a' : Vec F S40960 .i32) : Vec F S8192x128 .f32 := rows (ratio a a')

theorem inv_apply (a a' : Vec Ideal S40960 .i32) (n : Fin 64) (g : Fin 128) (i : Fin 5) (p : Fin 24) :
    inv a a' (ix2 ⟨n.val * 128 + g.val, by omega⟩ ⟨24 * i.val + p.val, by omega⟩) = ratio a a' (ix1 ⟨(n.val * 5 + i.val) * 128 + g.val, by omega⟩) :=
  rows_apply (ratio a a') n g i p

theorem ratio_apply (a a' : Vec Ideal S40960 .i32) (b : Fin 40960) :
    ratio a a' (ix1 b) = Ideal.exp ((Ideal.ofBits .f32 0x3F317218#32) * (((((a (ix1 b)) : BitVec 32).toInt : ℝ) : EReal) - ((((a' (ix1 b)) : BitVec 32).toInt : ℝ) : EReal))) := rfl

section Run

variable (m : (ℓ : Loc nD τ sig) → Buf (Elt F) ℓ) (c : Dev nD)

theorem V_codes : V m c main_v15 = codes (m ((c : Thread nD τ).loc main_arg0)) := by
  show StableHlo.after (List.flatten [hostOps0, hostOps0_1, hostOps0_2, hostOps0_3, hostOps0_4, hostOps0_5, hostOps0_6, hostOps0_7, hostOps0_8, hostOps0_9, hostOps0_10]) _ (Proc.devRef .tc main_v15) = _
  simp only [List.flatten_cons, List.flatten_nil, List.append_nil]
  after_reads_simp
  rfl
theorem V_scales : V m c main_v22 = scales (m ((c : Thread nD τ).loc main_arg1)) := by
  show StableHlo.after (List.flatten [hostOps0, hostOps0_1, hostOps0_2, hostOps0_3, hostOps0_4, hostOps0_5, hostOps0_6, hostOps0_7, hostOps0_8, hostOps0_9, hostOps0_10]) _ (Proc.devRef .tc main_v22) = _
  simp only [List.flatten_cons, List.flatten_nil, List.append_nil]
  after_reads_simp
  rfl
theorem V_inv : V m c main_v35 = inv (m ((c : Thread nD τ).loc main_arg1)) (m ((c : Thread nD τ).loc main_arg2)) := by
  show StableHlo.after (List.flatten [hostOps0, hostOps0_1, hostOps0_2, hostOps0_3, hostOps0_4, hostOps0_5, hostOps0_6, hostOps0_7, hostOps0_8, hostOps0_9, hostOps0_10]) _ (Proc.devRef .tc main_v35) = _
  simp only [List.flatten_cons, List.flatten_nil, List.append_nil]
  after_reads_simp
  rfl
theorem V_wts : V m c main_v2 = wts (m ((c : Thread nD τ).loc main_arg3)) := by
  show StableHlo.after (List.flatten [hostOps0, hostOps0_1, hostOps0_2, hostOps0_3, hostOps0_4, hostOps0_5, hostOps0_6, hostOps0_7, hostOps0_8, hostOps0_9, hostOps0_10]) _ (Proc.devRef .tc main_v2) = _
  simp only [List.flatten_cons, List.flatten_nil, List.append_nil]
  after_reads_simp
  rfl
theorem V_wsc : V m c main_v4 = wsc (m ((c : Thread nD τ).loc main_arg4)) := by
  show StableHlo.after (List.flatten [hostOps0, hostOps0_1, hostOps0_2, hostOps0_3, hostOps0_4, hostOps0_5, hostOps0_6, hostOps0_7, hostOps0_8, hostOps0_9, hostOps0_10]) _ (Proc.devRef .tc main_v4) = _
  simp only [List.flatten_cons, List.flatten_nil, List.append_nil]
  after_reads_simp
  rfl

/-- After the kernel the host reads its array. -/
theorem tail_res (dats : (p : Fin _) → (c : Dev nD) → Pipeline.Dat τ (Elt F) Unit ℕ (UR sig nD τ) ℕ (cfgs p) c) :
    Pipeline.afterTail₀ cfgs dats 0 (V0 m) [hostOps1] c main_v42 = res ((dats 0 c).arrAt 5 cfg0.N) := by
  unfold Pipeline.afterTail₀
  simp only [List.flatten_cons, List.flatten_nil, List.append_nil]
  after_reads_simp
  exact congrArg res (Pipeline.withArrays_arr spec0 (by decide) c (V0 m c) _ 5)

end Run

end Cert.SecondIdeal.Host

end
-- ==== Proof.SRef.lean ====
/- The second reference's result read at an index. -/
module

public import proofs.«01_k».proof.Proof.Gen.SecondReferenceIdeal.Read
public import proofs.«01_k».proof.Proof.RefVal

@[expose] public section

set_option backward.proofsInPublic true
set_option maxRecDepth 16384

noncomputable section

namespace Cert.SecondReferenceIdeal.Ref

open Idealize.ShloMosaic Idealize.ShloMosaic.TcCoe Idealize.ShloMosaic.Pointwise Idealize.SL.Sem
open Cert.SecondReferenceIdeal Cert.SecondReferenceIdeal.Gen Cert.SecondReferenceIdeal.Read

variable (x0 : Vec Ideal S40960x23x80 .bf16) (x1 x2 : Vec Ideal S40960 .i32) (x3 : Vec Ideal S80x4x2x40 .bf16) (x4 : Vec Ideal S4x2x40 .f32)

/-- The layer before its codes is the one the first reference has. -/
theorem layer_eq : val_main_v43 (F := Ideal) x0 x1 x3 x4 = Cert.ReferenceIdeal.Read.val_main_v43 (F := Ideal) x0 x1 x3 x4 := rfl

/-- Two to the power of a sample's next exponent, negated. -/
def nx (b : Fin 40960) : EReal := Ideal.exp ((Ideal.ofBits .f32 0x3F317218#32) * (-((((x2 (ix1 b)) : BitVec 32).toInt : ℝ) : EReal)))

/-- A number held within what a code can be. -/
def clip (z : EReal) : EReal := min (Ideal.ofBits .f32 0x43E00000#32) (max (Ideal.ofBits .f32 0xC3E00000#32) z)

theorem v50_eq (b : Fin 40960) (x : Fin 23) (d : Fin 80) : val_main_v50 (F := Ideal) x2 (ix3 b x d) = nx x2 b := by
  rw [val_main_v50_apply, val_main_v49_apply, val_main_v48_apply, val_main_v47_apply, val_main_v46_apply, val_main_cst_4_apply, val_main_v45_apply, val_main_v44_apply]
  rw [show idx_main_v49 (idx_main_v50 (ix3 b x d)) = ix1 b from (funext fun a => by match a with | ⟨0, _⟩ => rfl)]
  rfl

/-- The code at sample `b`, token `x`, head `h`, feature `e`. -/
theorem v53_eq (b : Fin 40960) (x : Fin 23) (h : Fin 2) (e : Fin 40) :
    val_main_v53 (F := Ideal) x0 x1 x2 x3 x4 (ix3 b x (⟨h.val * 40 + e.val, by omega⟩ : Fin 80)) = clip (Cert.ReferenceIdeal.Ref.res x0 x1 x3 x4 b x h e * nx x2 b) := by
  rw [val_main_v53_apply, val_main_v52_apply, val_main_call1_v2_apply, val_main_v51_apply, v50_eq, layer_eq, val_main_call1_v4_apply, val_main_call1_v1_apply,
    val_main_call1_v3_apply, val_main_call1_v0_apply, val_main_cst_5_apply, val_main_cst_6_apply]
  exact congrArg (fun z => clip (z * nx x2 b)) (Cert.ReferenceIdeal.Ref.v43_eq x0 x1 x3 x4 b x h e)

end Cert.SecondReferenceIdeal.Ref

end
-- ==== Proof.SValue.lean ====
/- The second layer's codes are the second reference's, at every index; and the claim of the two runs. -/
module

public import proofs.«01_k».proof.Defs
public import proofs.«01_k».proof.Proof.Value
public import proofs.«01_k».proof.Proof.SArr
public import proofs.«01_k».proof.Proof.SHostRun
public import proofs.«01_k».proof.Proof.SRef
public import proofs.«01_k».proof.Proof.Gen.SecondReferenceIdeal.Run

@[expose] public section

set_option backward.proofsInPublic true
set_option maxRecDepth 16384

noncomputable section

namespace Cert.SecondIdeal.Value

open Idealize.ShloMosaic Idealize.ShloMosaic.TcCoe Idealize.ShloMosaic.Pointwise Idealize.SL.Sem
open Cert.SecondIdeal Cert.SecondIdeal.Gen Cert.SecondIdeal.Trip
open Cert.SecondReferenceIdeal.Ref (nx clip)

/-- The exponential of a difference, for real numbers. -/
theorem exp_sub (w : EReal) (hw : ∃ r : ℝ, w = (r : EReal)) (y z : ℝ) :
    Ideal.exp (w * ((y : EReal) - (z : EReal))) = Ideal.exp (w * (y : EReal)) * Ideal.exp (w * (-(z : EReal))) := by
  obtain ⟨r, rfl⟩ := hw
  rw [← EReal.coe_sub, ← EReal.coe_neg, ← EReal.coe_mul, ← EReal.coe_mul, ← EReal.coe_mul]
  show ((Real.exp _ : ℝ) : EReal) = ((Real.exp _ : ℝ) : EReal) * ((Real.exp _ : ℝ) : EReal)
  rw [← EReal.coe_mul, ← Real.exp_add, mul_sub, mul_neg, sub_eq_add_neg]

/-- The next code scale against the scale is the product of the scale and the reference's factor. -/
theorem ratio_eq (a1 a2 : Vec Ideal S40960 .i32) (b : Fin 40960) : Host.ratio a1 a2 (ix1 b) = Cert.KernelIdeal.Ker.es a1 b * nx a2 b := by
  rw [Host.ratio_apply]
  exact exp_sub _ Cert.KernelIdeal.Alg.ln2_real _ _

theorem quant_apply (y : FVec Ideal S80x128 .f32) (r : FVec Ideal S1x128 .f32) (d : Fin 80) (l : Fin 128) : quant y r (ix2 d l) = clip (y (ix2 d l) * r (ix2 0 l)) := by
  pointwise [quant, clip]

variable (m : (ℓ : Loc nD τ sig) → Buf (Elt Ideal) ℓ) (c : Dev nD)

abbrev A0 : Vec Ideal S40960x23x80 .bf16 := m ((c : Thread nD τ).loc main_arg0)
abbrev A1 : Vec Ideal S40960 .i32 := m ((c : Thread nD τ).loc main_arg1)
abbrev A2 : Vec Ideal S40960 .i32 := m ((c : Thread nD τ).loc main_arg2)
abbrev A3 : Vec Ideal S80x4x2x40 .bf16 := m ((c : Thread nD τ).loc main_arg3)
abbrev A4 : Vec Ideal S4x2x40 .f32 := m ((c : Thread nD τ).loc main_arg4)

theorem blk_at (x0 : Vec Ideal S12288x128 .f32) (x1 xi : Vec Ideal S128x128 .f32) (x2 : Vec Ideal S320x96 .bf16) (x3 : Vec Ideal S320x128 .f32) (g : Fin 128) (d : Fin 80) (l : Fin 128) :
    Block.blk x0 x1 xi x2 x3 (ix2 ⟨g.val * 80 + d.val, by omega⟩ l) = Block.og x0 x1 xi x2 x3 g (ix2 d l) := by
  have e1 : (⟨(g.val * 80 + d.val) / 80, by omega⟩ : Fin 128) = g := Fin.ext (by show (g.val * 80 + d.val) / 80 = g.val; omega)
  have e2 : (⟨(g.val * 80 + d.val) % 80, by omega⟩ : Fin 80) = d := Fin.ext (by show (g.val * 80 + d.val) % 80 = d.val; omega)
  show Block.og x0 x1 xi x2 x3 ⟨(g.val * 80 + d.val) / 80, _⟩ (ix2 (⟨(g.val * 80 + d.val) % 80, _⟩ : Fin 80) l) = _
  rw [e1, e2]

theorem in0 (n : Fin 64) (t : Fin cfg0.N) (ht : t.val = n.val) (g : Fin 128) (k : Fin 96) (l : Fin 128) :
    iblk m c 0 t (ix2 ⟨96 * g.val + k.val, by omega⟩ l) = Cert.KernelIdeal.Host.codes (A0 m c) (ix2 ⟨(n.val * 128 + g.val) * 96 + k.val, by omega⟩ l) := by
  rw [Arr.iblk0, Host.V_codes]
  refine congrArg _ (funext (Fin.forall_fin_two.mpr ⟨Fin.ext ?_, rfl⟩))
  show t.val * 12288 + (96 * g.val + k.val) = (n.val * 128 + g.val) * 96 + k.val
  omega

theorem in1 (n : Fin 64) (t : Fin cfg0.N) (ht : t.val = n.val) (g : Fin 128) (l : Fin 128) :
    iblk m c 1 t (ix2 g l) = Cert.KernelIdeal.Host.scales (A1 m c) (ix2 ⟨n.val * 128 + g.val, by omega⟩ l) := by
  rw [Arr.iblk1, Host.V_scales]
  refine congrArg _ (funext (Fin.forall_fin_two.mpr ⟨Fin.ext ?_, rfl⟩))
  show t.val * 128 + g.val = n.val * 128 + g.val
  omega

theorem in2 (n : Fin 64) (t : Fin cfg0.N) (ht : t.val = n.val) (g : Fin 128) (l : Fin 128) :
    iblk m c 2 t (ix2 g l) = Host.inv (A1 m c) (A2 m c) (ix2 ⟨n.val * 128 + g.val, by omega⟩ l) := by
  rw [Arr.iblk2, Host.V_inv]
  refine congrArg _ (funext (Fin.forall_fin_two.mpr ⟨Fin.ext ?_, rfl⟩))
  show t.val * 128 + g.val = n.val * 128 + g.val
  omega

/-- The next scale of a lane of a group. -/
theorem inv_at (n : Fin 64) (t : Fin cfg0.N) (ht : t.val = n.val) (g : Fin 128) (i : Fin 5) (p : Fin 23) :
    Cert.KernelIdeal.Block.rg (iblk m c 2 t) g (ix2 0 (⟨24 * i.val + p.val, by omega⟩ : Fin 128))
      = Cert.KernelIdeal.Ker.es (A1 m c) ⟨(n.val * 5 + i.val) * 128 + g.val, by omega⟩ * nx (A2 m c) ⟨(n.val * 5 + i.val) * 128 + g.val, by omega⟩ := by
  rw [Cert.KernelIdeal.Ker.rg_ix2]
  refine (in2 m c n t ht g _).trans ?_
  exact (Host.inv_apply (A1 m c) (A2 m c) n g i ⟨p.val, by omega⟩).trans (ratio_eq _ _ _)

theorem at_index (n : Fin 64) (g : Fin 128) (i : Fin 5) (p : Fin 23) (h : Fin 2) (e : Fin 40) :
    Cert.KernelIdeal.Host.res (Arr.out m c) (ix3 (⟨(n.val * 5 + i.val) * 128 + g.val, by omega⟩ : Fin 40960) p (⟨h.val * 40 + e.val, by omega⟩ : Fin 80))
      = Cert.SecondReferenceIdeal.Read.val_main_v53 (F := Ideal) (A0 m c) (A1 m c) (A2 m c) (A3 m c) (A4 m c) (ix3 (⟨(n.val * 5 + i.val) * 128 + g.val, by omega⟩ : Fin 40960) p (⟨h.val * 40 + e.val, by omega⟩ : Fin 80)) := by
  let t : Fin cfg0.N := ⟨n.val, by have h : cfg0.N = 64 := N_0; omega⟩
  rw [Cert.KernelIdeal.Host.res_apply, Cert.SecondReferenceIdeal.Ref.v53_eq]
  rw [Arr.out_at m c t (ix2 (⟨g.val * 80 + (h.val * 40 + e.val), by omega⟩ : Fin 10240) (⟨24 * i.val + p.val, by omega⟩ : Fin 128)) _
    (by show (n.val * 128 + g.val) * 80 + (h.val * 40 + e.val) = n.val * 10240 + (g.val * 80 + (h.val * 40 + e.val)); omega) rfl]
  refine (blk_at (iblk m c 0 t) (iblk m c 1 t) (iblk m c 2 t) (iblk m c 3 t) (iblk m c 4 t) g (⟨h.val * 40 + e.val, by omega⟩ : Fin 80) _).trans ?_
  unfold Block.og
  rw [quant_apply]
  refine congrArg clip ?_
  rw [inv_at m c n t rfl g i p, ← mul_assoc]
  refine congrArg (· * _) ?_
  refine (congrArg (· * _) (Cert.KernelIdeal.Ker.ag_at (A0 m c) (A1 m c) (A3 m c) (A4 m c) (iblk m c 0 t) (iblk m c 1 t) (iblk m c 3 t) (iblk m c 4 t) n g (in0 m c n t rfl g) (in1 m c n t rfl g)
    ((Arr.iblk3 m c t).trans (Host.V_wts m c)) ((Arr.iblk4 m c t).trans (Host.V_wsc m c)) i p h e _ rfl _ rfl ⟨(n.val * 5 + i.val) * 128 + g.val, by omega⟩ rfl)).trans ?_
  exact Cert.KernelIdeal.Value.formula (A0 m c) (A1 m c) (A3 m c) (A4 m c) _ p h e

/-- The second layer's codes are the reference's. -/
theorem value : Cert.KernelIdeal.Host.res (Arr.out m c) = Cert.SecondReferenceIdeal.Read.val_main_v53 (F := Ideal) (A0 m c) (A1 m c) (A2 m c) (A3 m c) (A4 m c) := by
  funext (y : S40960x23x80.Idx)
  rw [Cert.KernelIdeal.Value.idx_eq y]
  exact at_index m c _ _ _ _ _ _

variable (ρ : Dev nD → PrngReg)

/-- The second layer's run ends with the formula in its result and the arguments as they were. -/
theorem run : θ_run (defs (F := Ideal)) (onTc (τ := τ) (main (F := Ideal))) ⟨m, fun _ => 0, ρ⟩ (fun r => ∀ c : Dev nD,
      r.2.mem ((c.tc : Thread nD τ).loc main_v42) = Cert.KernelIdeal.Host.res (Arr.out m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono (fun r h c => ⟨?_, h.2 c⟩) (θ_run_and (Own.run_main m ρ) (Own.unchanged m ρ))
  exact ((h.1 c).2 main_v42 (Pipeline.mem_restRefs_of main_v42 (by decide) (by decide))).trans ((Host.tail_res m c (Own.dats m)).trans (congrArg Cert.KernelIdeal.Host.res (Arr.final m c)))

/-- The two runs end with the same codes. -/
theorem algebraic : Cert.algebraic_SecondIdeal_SecondReferenceIdeal (hSecondIdeal := Cert.SecondIdeal.Gen.facts) (hSecondReferenceIdeal := Cert.SecondReferenceIdeal.Gen.facts) := by
  intro m g m' g' _ hm
  refine ⟨fun c => Cert.KernelIdeal.Host.res (Arr.out m c), run m g, ?_⟩
  refine (θ_run _ _ _).mono (fun r h c => ⟨(h c).1.trans ?_, (h c).2⟩) (Cert.SecondReferenceIdeal.Value.run (F := Ideal) m' g')
  refine (Cert.SecondReferenceIdeal.Read.val_main_v53_eq m' c).trans (Eq.trans ?_ (value m c).symm)
  rw [(hm c).1, (hm c).2.1, (hm c).2.2.1, (hm c).2.2.2.1, (hm c).2.2.2.2]

end Cert.SecondIdeal.Value

end
-- ==== Proof.lean ====
/- The claim, assembled: the programs run to the end and leave their arguments, each rewritten kernel is its kernel under the stated rules, and its result is its reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Run
public import proofs.«01_k».proof.Proof.Gen.ReferenceIdeal
public import proofs.«01_k».proof.Proof.Value
public import proofs.«01_k».proof.Proof.Gen.Second
public import proofs.«01_k».proof.Proof.Gen.Second.Skeleton
public import proofs.«01_k».proof.Proof.Gen.Second.Loops
public import proofs.«01_k».proof.Proof.Gen.Second.Launch
public import proofs.«01_k».proof.Proof.Gen.Second.Points
public import proofs.«01_k».proof.Proof.SFrame
public import proofs.«01_k».proof.Proof.Gen.SecondIdeal
public import proofs.«01_k».proof.Proof.Gen.SecondIdeal.Skeleton
public import proofs.«01_k».proof.Proof.Gen.SecondIdeal.Loops
public import proofs.«01_k».proof.Proof.Gen.SecondIdeal.Launch
public import proofs.«01_k».proof.Proof.Gen.SecondIdeal.Points
public import proofs.«01_k».proof.Proof.SRun
public import proofs.«01_k».proof.Proof.Gen.SecondReferenceIdeal
public import proofs.«01_k».proof.Proof.SValue
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
   Cert.Second.Gen.facts, Cert.SecondIdeal.Gen.facts, Cert.SecondReferenceIdeal.Gen.facts,
   fun m ρ _ => Cert.Kernel.Own.frame m ρ, fun m ρ _ => Cert.KernelIdeal.Own.frame m ρ,
   fun m ρ _ => (θ_run Cert.ReferenceIdeal.defs _ _).mono (fun r h => ⟨fun c => (h c).2,
      Idealize.ShloMosaic.sem_eq_zero_of_no_sems (by decide) r.2⟩) (Cert.ReferenceIdeal.Value.run (F := Ideal) m ρ),
   fun m ρ _ => Cert.Second.Own.frame m ρ, fun m ρ _ => Cert.SecondIdeal.Own.frame m ρ,
   fun m ρ _ => (θ_run Cert.SecondReferenceIdeal.defs _ _).mono (fun r h => ⟨fun c => (h c).2,
      Idealize.ShloMosaic.sem_eq_zero_of_no_sems (by decide) r.2⟩) (Cert.SecondReferenceIdeal.Value.run (F := Ideal) m ρ),
   ⟨IdealRules.bf16_pair.statement Cert.KernelIdeal.S16x128 Cert.KernelIdeal.S8x128,
   IdealRules.bf16_pair.selectZeroStatement Cert.KernelIdeal.S8x128⟩,
   Cert.KernelIdeal.Value.algebraic,
   ⟨IdealRules.bf16_pair.statement Cert.SecondIdeal.S16x128 Cert.SecondIdeal.S8x128,
   IdealRules.bf16_pair.selectZeroStatement Cert.SecondIdeal.S8x128⟩,
   Cert.SecondIdeal.Value.algebraic⟩

end Cert.Proof

end
